-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x512x32x64 : Shape := ⟨4, ![2, 512, 32, 64]⟩
abbrev S2x512x512 : Shape := ⟨3, ![2, 512, 512]⟩
abbrev S64x64 : Shape := ⟨2, ![64, 64]⟩
abbrev S64 : Shape := ⟨1, ![64]⟩
abbrev S64x16 : Shape := ⟨2, ![64, 16]⟩
abbrev S16 : Shape := ⟨1, ![16]⟩
abbrev S16x64x64 : Shape := ⟨3, ![16, 64, 64]⟩
abbrev S16x64 : Shape := ⟨2, ![16, 64]⟩
abbrev S4x16 : Shape := ⟨2, ![4, 16]⟩
abbrev S_ : Shape := ⟨0, ![]⟩

class Facts : Prop where
  bcast_S_S2x512x32x64 : S_.BroadcastsInDim S2x512x32x64 (![] : Fin 0 → Fin S2x512x32x64.rank)
  reducesTo_S2x512x32x64_S_d0_1_2_3 : S2x512x32x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg12 : FVec F S64x16 .f32) (main_arg13 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x16 .f32 := Host.absf main_arg12
  let main_cst_20 : FVec F S_ .f32 := constant S_ .f32 0x7F800000#32
  let main_v55 : FVec F S64x16 .f32 := broadcastInDim S64x16 ![] bcast_S_S64x16 main_cst_20
  let main_v56 : IVec S64x16 1 := cmpf .olt main_v54 main_v55
  let main_c_21 : IVec S_ 1 := constantI S_ 1 1#1
  let main_v57 : IVec S_ 1 := (fun x v => Host.reduce IntOp.andi x v reducesTo_S64x16_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  main_v63

def fn_part2 {F : FTy → Type} [FloatOps F] (main_arg8 : FVec F S64x64 .f32) (main_arg9 : FVec F S64 .f32) (main_arg10 : FVec F S64 .f32) (main_arg11 : FVec F S64 .f32) (main_arg12 : FVec F S64x16 .f32) (main_arg13 : FVec F S16 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x16 .f32) (main_arg13 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S2x512x32x64 .f32) (main_arg1 : IVec S2x512x512 32) (main_arg2 : FVec F S64x64 .f32) (main_arg3 : FVec F S64x64 .f32) (main_arg4 : FVec F S64x64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x16 .f32) (main_arg13 : FVec F S16 .f32) (main_arg14 : FVec F S16x64x64 .f32) (main_arg15 : FVec F S16x64 .f32) (main_arg16 : FVec F S16x64x64 .f32) (main_arg17 : FVec F S16x64 .f32) (main_arg18 : FVec F S64 .f32) (main_arg19 : FVec F S64 .f32) (main_arg20 : FVec F S64x64 .f32) (main_arg21 : FVec F S64 .f32) (main_arg22 : FVec F S64x64 .f32) (main_arg23 : FVec F S4x16 .f32) (main_arg24 : FVec F S4x16 .f32) : IVec S_ 1 :=
  let main_v0 : FVec F S2x512x32x64 .f32 := Host.absf main_arg0
  let main_cst : FVec F S_ .f32 := constant S_ .f32 0x7F800000#32
  let main_v1 : FVec F S2x512x32x64 .f32 := broadcastInDim S2x512x32x64 ![] bcast_S_S2x512x32x64 main_cst
  let main_v2 : IVec S2x512x32x64 1 := cmpf .olt main_v0 main_v1
  let main_c : IVec S_ 1 := constantI S_ 1 1#1
  let main_v3 : IVec S_ 1 := (fun x v => Host.reduce IntOp.andi x v reducesTo_S2x512x32x64_S_d0_1_2_3 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S2x512x32x64 : Shape := ⟨4, ![2, 512, 32, 64]⟩
abbrev S2x512x512 : Shape := ⟨3, ![2, 512, 512]⟩
abbrev S64x64 : Shape := ⟨2, ![64, 64]⟩
abbrev S64 : Shape := ⟨1, ![64]⟩
abbrev S64x16 : Shape := ⟨2, ![64, 16]⟩
abbrev S16 : Shape := ⟨1, ![16]⟩
abbrev S16x64x64 : Shape := ⟨3, ![16, 64, 64]⟩
abbrev S16x64 : Shape := ⟨2, ![16, 64]⟩
abbrev S4x16 : Shape := ⟨2, ![4, 16]⟩
abbrev S1024x32x64 : Shape := ⟨3, ![1024, 32, 64]⟩
abbrev S32x1024x64 : Shape := ⟨3, ![32, 1024, 64]⟩
abbrev S1x64 : Shape := ⟨2, ![1, 64]⟩
abbrev S1x16 : Shape := ⟨2, ![1, 16]⟩
abbrev S16x1024x64 : Shape := ⟨3, ![16, 1024, 64]⟩
abbrev S16x2x512x64 : Shape := ⟨4, ![16, 2, 512, 64]⟩
abbrev S2x512x16x64 : Shape := ⟨4, ![2, 512, 16, 64]⟩
abbrev S32x8x64 : Shape := ⟨3, ![32, 8, 64]⟩
abbrev S16x8x64 : Shape := ⟨3, ![16, 8, 64]⟩
abbrev S256x64 : Shape := ⟨2, ![256, 64]⟩
abbrev S256x256 : Shape := ⟨2, ![256, 256]⟩
abbrev S256x16 : Shape := ⟨2, ![256, 16]⟩
abbrev S256 : Shape := ⟨1, ![256]⟩
abbrev S256x1 : Shape := ⟨2, ![256, 1]⟩
abbrev S1x64x64 : Shape := ⟨3, ![1, 64, 64]⟩
abbrev S16x2x8x64 : Shape := ⟨4, ![16, 2, 8, 64]⟩
abbrev S1x512x64 : Shape := ⟨3, ![1, 512, 64]⟩
abbrev S1x512x512 : Shape := ⟨3, ![1, 512, 512]⟩
abbrev S512x64 : Shape := ⟨2, ![512, 64]⟩
abbrev S512x512 : Shape := ⟨2, ![512, 512]⟩
abbrev S512x16 : Shape := ⟨2, ![512, 16]⟩
abbrev S512x1 : Shape := ⟨2, ![512, 1]⟩
abbrev S1x512 : Shape := ⟨2, ![1, 512]⟩
abbrev S512 : Shape := ⟨1, ![512]⟩

abbrev nBuf : Space → Nat
  | .hbm => 41
  | .vmem => 33
  | .smem => 0
  | _ => 0

abbrev bufTy : (tb : Table) → Fin (tcTables nBuf tb) → BufTy
  | .hbm, ⟨0, _⟩ => ⟨S2x512x32x64, .f32⟩
  | .hbm, ⟨1, _⟩ => ⟨S2x512x512, .i32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x16, .f32⟩
  | .hbm, ⟨13, _⟩ => ⟨S16, .f32⟩
  | .hbm, ⟨14, _⟩ => ⟨S16x64x64, .f32⟩
  | .hbm, ⟨15, _⟩ => ⟨S16x64, .f32⟩
  | .hbm, ⟨16, _⟩ => ⟨S16x64x64, .f32⟩
  | .hbm, ⟨17, _⟩ => ⟨S16x64, .f32⟩
  | .hbm, ⟨18, _⟩ => ⟨S64, .f32⟩
  | .hbm, ⟨19, _⟩ => ⟨S64, .f32⟩
  | .hbm, ⟨20, _⟩ => ⟨S64x64, .f32⟩
  | .hbm, ⟨21, _⟩ => ⟨S64, .f32⟩
  | .hbm, ⟨22, _⟩ => ⟨S64x64, .f32⟩
  | .hbm, ⟨23, _⟩ => ⟨S4x16, .f32⟩
  | .hbm, ⟨24, _⟩ => ⟨S4x16, .f32⟩
  | .hbm, ⟨25, _⟩ => ⟨S1024x32x64, .f32⟩
  | .hbm, ⟨26, _⟩ => ⟨S32x1024x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x16, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S16x1024x64, .f32⟩
  | .hbm, ⟨38, _⟩ => ⟨S16x1024x64, .f32⟩
  | .hbm, ⟨39, _⟩ => ⟨S16x2x512x64, .f32⟩
  | .hbm, ⟨40, _⟩ => ⟨S2x512x16x64, .f32⟩
  | .local _ .vmem, ⟨0, _⟩ => ⟨S32x8x64, .f32⟩
  | .local _ .vmem, ⟨1, _⟩ => ⟨S32x8x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S64x16, .f32⟩
  | .local _ .vmem, ⟨13, _⟩ => ⟨S1x16, .f32⟩
  | .local _ .vmem, ⟨14, _⟩ => ⟨S16x64x64, .f32⟩
  | .local _ .vmem, ⟨15, _⟩ => ⟨S16x64, .f32⟩
  | .local _ .vmem, ⟨16, _⟩ => ⟨S16x64x64, .f32⟩
  | .local _ .vmem, ⟨17, _⟩ => ⟨S16x64, .f32⟩
  | .local _ .vmem, ⟨18, _⟩ => ⟨S1x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S16x8x64, .f32⟩
  | .local _ .vmem, ⟨23, _⟩ => ⟨S16x8x64, .f32⟩
  | .local _ .vmem, ⟨24, _⟩ => ⟨S1x512x64, .f32⟩
  | .local _ .vmem, ⟨25, _⟩ => ⟨S1x512x64, .f32⟩
  | .local _ .vmem, ⟨26, _⟩ => ⟨S1x512x512, .i32⟩
  | .local _ .vmem, ⟨27, _⟩ => ⟨S1x512x512, .i32⟩
  | .local _ .vmem, ⟨28, _⟩ => ⟨S64x64, .f32⟩
  | .local _ .vmem, ⟨29, _⟩ => ⟨S4x16, .f32⟩
  | .local _ .vmem, ⟨30, _⟩ => ⟨S4x16, .f32⟩
  | .local _ .vmem, ⟨31, _⟩ => ⟨S1x512x64, .f32⟩
  | .local _ .vmem, ⟨32, _⟩ => ⟨S1x512x64, .f32⟩
  | _, _ => ⟨S2x512x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v0 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem3_0 : DmaSem sig := 29
abbrev cc1_sem4_0 : DmaSem sig := 30
abbrev cc1_sem5_0 : DmaSem sig := 31
abbrev cc1_sem5_1 : DmaSem sig := 32

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S16x8x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

def cc1_transform_1 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S2x512x32x64 : Shape := ⟨4, ![2, 512, 32, 64]⟩
abbrev S2x512x512 : Shape := ⟨3, ![2, 512, 512]⟩
abbrev S64x64 : Shape := ⟨2, ![64, 64]⟩
abbrev S64 : Shape := ⟨1, ![64]⟩
abbrev S64x16 : Shape := ⟨2, ![64, 16]⟩
abbrev S16 : Shape := ⟨1, ![16]⟩
abbrev S16x64x64 : Shape := ⟨3, ![16, 64, 64]⟩
abbrev S16x64 : Shape := ⟨2, ![16, 64]⟩
abbrev S4x16 : Shape := ⟨2, ![4, 16]⟩
abbrev S1024x32x64 : Shape := ⟨3, ![1024, 32, 64]⟩
abbrev S1x1x64 : Shape := ⟨3, ![1, 1, 64]⟩
abbrev S1024x32x4x16 : Shape := ⟨4, ![1024, 32, 4, 16]⟩
abbrev S1024x4x32x16 : Shape := ⟨4, ![1024, 4, 32, 16]⟩
abbrev S1024x4x16x32 : Shape := ⟨4, ![1024, 4, 16, 32]⟩
abbrev S1024x4x32x32 : Shape := ⟨4, ![1024, 4, 32, 32]⟩
abbrev S_ : Shape := ⟨0, ![]⟩
abbrev S1024x4x32 : Shape := ⟨3, ![1024, 4, 32]⟩
abbrev S1024x4x32x1 : Shape := ⟨4, ![1024, 4, 32, 1]⟩
abbrev S1024x32 : Shape := ⟨2, ![1024, 32]⟩
abbrev S1024x32x1 : Shape := ⟨3, ![1024, 32, 1]⟩
abbrev S32768x64 : Shape := ⟨2, ![32768, 64]⟩
abbrev S32768x16 : Shape := ⟨2, ![32768, 16]⟩
abbrev S1x16 : Shape := ⟨2, ![1, 16]⟩
abbrev S32768x2 : Shape := ⟨2, ![32768, 2]⟩
abbrev S32768 : Shape := ⟨1, ![32768]⟩
abbrev S32768x1 : Shape := ⟨2, ![32768, 1]⟩
abbrev S32768x2x1 : Shape := ⟨3, ![32768, 2, 1]⟩
abbrev S32768x2x2 : Shape := ⟨3, ![32768, 2, 2]⟩
abbrev S32768x16x64 : Shape := ⟨3, ![32768, 16, 64]⟩
abbrev S1x16x64 : Shape := ⟨3, ![1, 16, 64]⟩
abbrev S16x64x32768 : Shape := ⟨3, ![16, 64, 32768]⟩
abbrev S1024x16x2x64 : Shape := ⟨4, ![1024, 16, 2, 64]⟩
abbrev S1024x16x64 : Shape := ⟨3, ![1024, 16, 64]⟩
abbrev S2x512x16x64 : Shape := ⟨4, ![2, 512, 16, 64]⟩
abbrev S2x16x512x64 : Shape := ⟨4, ![2, 16, 512, 64]⟩
abbrev S32x512x64 : Shape := ⟨3, ![32, 512, 64]⟩
abbrev S1x2x1x512x1x512 : Shape := ⟨6, ![1, 2, 1, 512, 1, 512]⟩
abbrev S16x2x1x512x1x512 : Shape := ⟨6, ![16, 2, 1, 512, 1, 512]⟩
abbrev S32x512x512 : Shape := ⟨3, ![32, 512, 512]⟩
abbrev S32x512x4x16 : Shape := ⟨4, ![32, 512, 4, 16]⟩
abbrev S4x32x512 : Shape := ⟨3, ![4, 32, 512]⟩
abbrev S32x512x4 : Shape := ⟨3, ![32, 512, 4]⟩
abbrev S32x512x1x4 : Shape := ⟨4, ![32, 512, 1, 4]⟩
abbrev S32x1x512x4 : Shape := ⟨4, ![32, 1, 512, 4]⟩
abbrev S32x512x512x4 : Shape := ⟨4, ![32, 512, 512, 4]⟩
abbrev S32x512x512x1 : Shape := ⟨4, ![32, 512, 512, 1]⟩
abbrev S32x4x16x512 : Shape := ⟨4, ![32, 4, 16, 512]⟩

abbrev nBuf : Space → Nat
  | .hbm => 266
  | .vmem => 0
  | .smem => 0
  | _ => 0

abbrev hbmTy0_0 (i : Nat) : BufTy := match i % 128 with
  | 0 => ⟨S2x512x32x64, .f32⟩
  | 1 => ⟨S2x512x512, .i32⟩
  | 2 => ⟨S64x64, .f32⟩
  | 3 => ⟨S64x64, .f32⟩
  | 4 => ⟨S64x64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64x16, .f32⟩
  | 13 => ⟨S16, .f32⟩
  | 14 => ⟨S16x64x64, .f32⟩
  | 15 => ⟨S16x64, .f32⟩
  | 16 => ⟨S16x64x64, .f32⟩
  | 17 => ⟨S16x64, .f32⟩
  | 18 => ⟨S64, .f32⟩
  | 19 => ⟨S64, .f32⟩
  | 20 => ⟨S64x64, .f32⟩
  | 21 => ⟨S64, .f32⟩
  | 22 => ⟨S64x64, .f32⟩
  | 23 => ⟨S4x16, .f32⟩
  | 24 => ⟨S4x16, .f32⟩
  | 25 => ⟨S1024x32x64, .f32⟩
  | 26 => ⟨S1024x32x64, .f32⟩
  | 27 => ⟨S1x1x64, .f32⟩
  | 28 => ⟨S1024x32x64, .f32⟩
  | 29 => ⟨S1024x32x64, .f32⟩
  | 30 => ⟨S1024x32x4x16, .f32⟩
  | 31 => ⟨S1024x4x32x16, .f32⟩
  | 32 => ⟨S1024x32x64, .f32⟩
  | 33 => ⟨S1x1x64, .f32⟩
  | 34 => ⟨S1024x32x64, .f32⟩
  | 35 => ⟨S1024x32x64, .f32⟩
  | 36 => ⟨S1024x32x4x16, .f32⟩
  | 37 => ⟨S1024x4x32x16, .f32⟩
  | 38 => ⟨S1024x32x64, .f32⟩
  | 39 => ⟨S1x1x64, .f32⟩
  | 40 => ⟨S1024x32x64, .f32⟩
  | 41 => ⟨S1024x32x64, .f32⟩
  | 42 => ⟨S1024x32x4x16, .f32⟩
  | 43 => ⟨S1024x4x32x16, .f32⟩
  | 44 => ⟨S1024x4x16x32, .f32⟩
  | 45 => ⟨S1024x4x32x32, .f32⟩
  | 46 => ⟨S_, .f32⟩
  | 47 => ⟨S_, .f32⟩
  | 48 => ⟨S1024x4x32x32, .f32⟩
  | 49 => ⟨S1024x4x32x32, .f32⟩
  | 50 => ⟨S_, .f32⟩
  | 51 => ⟨S1024x4x32, .f32⟩
  | 52 => ⟨S_, .f32⟩
  | 53 => ⟨S1024x4x32, .f32⟩
  | 54 => ⟨S1024x4x32, .f32⟩
  | 55 => ⟨S1024x4x32x1, .f32⟩
  | 56 => ⟨S1024x4x32x32, .f32⟩
  | 57 => ⟨S1024x4x32x32, .f32⟩
  | 58 => ⟨S1024x4x32x32, .f32⟩
  | 59 => ⟨S_, .f32⟩
  | 60 => ⟨S1024x4x32, .f32⟩
  | 61 => ⟨S1024x4x32x1, .f32⟩
  | 62 => ⟨S1024x4x32x32, .f32⟩
  | 63 => ⟨S1024x4x32x32, .f32⟩
  | 64 => ⟨S1024x4x32x16, .f32⟩
  | 65 => ⟨S1024x32x4x16, .f32⟩
  | 66 => ⟨S1024x32x64, .f32⟩
  | 67 => ⟨S1024x32x64, .f32⟩
  | 68 => ⟨S1x1x64, .f32⟩
  | 69 => ⟨S1024x32x64, .f32⟩
  | 70 => ⟨S1024x32x64, .f32⟩
  | 71 => ⟨S1024x32x64, .f32⟩
  | 72 => ⟨S_, .f32⟩
  | 73 => ⟨S1024x32, .f32⟩
  | 74 => ⟨S1024x32x1, .f32⟩
  | 75 => ⟨S_, .f32⟩
  | 76 => ⟨S1024x32x1, .f32⟩
  | 77 => ⟨S1024x32x1, .f32⟩
  | 78 => ⟨S1024x32x64, .f32⟩
  | 79 => ⟨S1024x32x64, .f32⟩
  | 80 => ⟨S1024x32x64, .f32⟩
  | 81 => ⟨S_, .f32⟩
  | 82 => ⟨S1024x32, .f32⟩
  | 83 => ⟨S1024x32x1, .f32⟩
  | 84 => ⟨S_, .f32⟩
  | 85 => ⟨S1024x32x1, .f32⟩
  | 86 => ⟨S1024x32x1, .f32⟩
  | 87 => ⟨S1024x32x64, .f32⟩
  | 88 => ⟨S1024x32x64, .f32⟩
  | 89 => ⟨S_, .f32⟩
  | 90 => ⟨S1024x32x1, .f32⟩
  | 91 => ⟨S1024x32x1, .f32⟩
  | 92 => ⟨S1024x32x1, .f32⟩
  | 93 => ⟨S1024x32x64, .f32⟩
  | 94 => ⟨S1024x32x64, .f32⟩
  | 95 => ⟨S1x1x64, .f32⟩
  | 96 => ⟨S1024x32x64, .f32⟩
  | 97 => ⟨S1024x32x64, .f32⟩
  | 98 => ⟨S1x1x64, .f32⟩
  | 99 => ⟨S1024x32x64, .f32⟩
  | 100 => ⟨S1024x32x64, .f32⟩
  | 101 => ⟨S32768x64, .f32⟩
  | 102 => ⟨S32768x16, .f32⟩
  | 103 => ⟨S1x16, .f32⟩
  | 104 => ⟨S32768x16, .f32⟩
  | 105 => ⟨S32768x16, .f32⟩
  | 106 => ⟨S32768x2, .f32⟩
  | 107 => ⟨S32768x2, .i32⟩
  | 108 => ⟨S_, .f32⟩
  | 109 => ⟨S32768, .f32⟩
  | 110 => ⟨S_, .f32⟩
  | 111 => ⟨S32768, .f32⟩
  | 112 => ⟨S32768, .f32⟩
  | 113 => ⟨S32768x1, .f32⟩
  | 114 => ⟨S32768x2, .f32⟩
  | 115 => ⟨S32768x2, .f32⟩
  | 116 => ⟨S32768x2, .f32⟩
  | 117 => ⟨S_, .f32⟩
  | 118 => ⟨S32768, .f32⟩
  | 119 => ⟨S32768x1, .f32⟩
  | 120 => ⟨S32768x2, .f32⟩
  | 121 => ⟨S32768x2, .f32⟩
  | 122 => ⟨S_, .f32⟩
  | 123 => ⟨S32768x16, .f32⟩
  | 124 => ⟨S32768, .i32⟩
  | 125 => ⟨S32768x1, .i32⟩
  | 126 => ⟨S_, .i32⟩
  | 127 => ⟨S32768x1, .i32⟩
  | _ => ⟨S2x512x32x64, .f32⟩

abbrev hbmTy0_1 (i : Nat) : BufTy := match i % 128 with
  | 0 => ⟨S32768x1, .i1⟩
  | 1 => ⟨S_, .i32⟩
  | 2 => ⟨S32768x1, .i32⟩
  | 3 => ⟨S32768x1, .i32⟩
  | 4 => ⟨S32768x1, .i32⟩
  | 5 => ⟨S_, .i32⟩
  | 6 => ⟨S32768x2, .i32⟩
  | 7 => ⟨S32768x2, .i1⟩
  | 8 => ⟨S_, .i32⟩
  | 9 => ⟨S32768x2, .i32⟩
  | 10 => ⟨S32768x2, .i32⟩
  | 11 => ⟨S32768x2, .i32⟩
  | 12 => ⟨S32768x2, .i32⟩
  | 13 => ⟨S32768x2x1, .i32⟩
  | 14 => ⟨S32768x2x1, .i32⟩
  | 15 => ⟨S32768x2x2, .i32⟩
  | 16 => ⟨S32768x16, .f32⟩
  | 17 => ⟨S32768x16x64, .f32⟩
  | 18 => ⟨S1x16x64, .f32⟩
  | 19 => ⟨S32768x16x64, .f32⟩
  | 20 => ⟨S32768x16x64, .f32⟩
  | 21 => ⟨S_, .f32⟩
  | 22 => ⟨S32768x16x64, .f32⟩
  | 23 => ⟨S32768x16x64, .f32⟩
  | 24 => ⟨S16x64x32768, .f32⟩
  | 25 => ⟨S32768x16x64, .f32⟩
  | 26 => ⟨S1x16x64, .f32⟩
  | 27 => ⟨S32768x16x64, .f32⟩
  | 28 => ⟨S32768x16x64, .f32⟩
  | 29 => ⟨S32768x64, .f32⟩
  | 30 => ⟨S1024x32x64, .f32⟩
  | 31 => ⟨S1024x32x64, .f32⟩
  | 32 => ⟨S_, .f32⟩
  | 33 => ⟨S1024x32, .f32⟩
  | 34 => ⟨S1024x32x1, .f32⟩
  | 35 => ⟨S_, .f32⟩
  | 36 => ⟨S1024x32x1, .f32⟩
  | 37 => ⟨S1024x32x1, .f32⟩
  | 38 => ⟨S1024x32x64, .f32⟩
  | 39 => ⟨S1024x32x64, .f32⟩
  | 40 => ⟨S1024x32x64, .f32⟩
  | 41 => ⟨S_, .f32⟩
  | 42 => ⟨S1024x32, .f32⟩
  | 43 => ⟨S1024x32x1, .f32⟩
  | 44 => ⟨S_, .f32⟩
  | 45 => ⟨S1024x32x1, .f32⟩
  | 46 => ⟨S1024x32x1, .f32⟩
  | 47 => ⟨S1024x32x64, .f32⟩
  | 48 => ⟨S1024x32x64, .f32⟩
  | 49 => ⟨S_, .f32⟩
  | 50 => ⟨S1024x32x1, .f32⟩
  | 51 => ⟨S1024x32x1, .f32⟩
  | 52 => ⟨S1024x32x1, .f32⟩
  | 53 => ⟨S1024x32x64, .f32⟩
  | 54 => ⟨S1024x32x64, .f32⟩
  | 55 => ⟨S1x1x64, .f32⟩
  | 56 => ⟨S1024x32x64, .f32⟩
  | 57 => ⟨S1024x32x64, .f32⟩
  | 58 => ⟨S1x1x64, .f32⟩
  | 59 => ⟨S1024x32x64, .f32⟩
  | 60 => ⟨S1024x32x64, .f32⟩
  | 61 => ⟨S1024x32x64, .f32⟩
  | 62 => ⟨S1x1x64, .f32⟩
  | 63 => ⟨S1024x32x64, .f32⟩
  | 64 => ⟨S1024x32x64, .f32⟩
  | 65 => ⟨S_, .f32⟩
  | 66 => ⟨S1024x32x64, .f32⟩
  | 67 => ⟨S1024x32x64, .i1⟩
  | 68 => ⟨S_, .f32⟩
  | 69 => ⟨S1024x32x64, .f32⟩
  | 70 => ⟨S1024x32x64, .i1⟩
  | 71 => ⟨S_, .f32⟩
  | 72 => ⟨S_, .f32⟩
  | 73 => ⟨S1024x32x64, .f32⟩
  | 74 => ⟨S1024x32x64, .f32⟩
  | 75 => ⟨S1024x32x64, .f32⟩
  | 76 => ⟨S_, .f32⟩
  | 77 => ⟨S1024x32x64, .f32⟩
  | 78 => ⟨S1024x32x64, .f32⟩
  | 79 => ⟨S1024x32x64, .f32⟩
  | 80 => ⟨S1024x16x2x64, .f32⟩
  | 81 => ⟨S_, .f32⟩
  | 82 => ⟨S1024x16x64, .f32⟩
  | 83 => ⟨S2x512x16x64, .f32⟩
  | 84 => ⟨S2x16x512x64, .f32⟩
  | 85 => ⟨S32x512x64, .f32⟩
  | 86 => ⟨S1x2x1x512x1x512, .i32⟩
  | 87 => ⟨S16x2x1x512x1x512, .i32⟩
  | 88 => ⟨S32x512x512, .i32⟩
  | 89 => ⟨S32x512x64, .f32⟩
  | 90 => ⟨S32x512x4x16, .f32⟩
  | 91 => ⟨S4x32x512, .f32⟩
  | 92 => ⟨S32x512x4, .f32⟩
  | 93 => ⟨S4x32x512, .f32⟩
  | 94 => ⟨S32x512x4, .f32⟩
  | 95 => ⟨S32x512x1x4, .f32⟩
  | 96 => ⟨S32x1x512x4, .f32⟩
  | 97 => ⟨S32x512x512x4, .f32⟩
  | 98 => ⟨S32x512x512x4, .f32⟩
  | 99 => ⟨S32x512x512x4, .f32⟩
  | 100 => ⟨S_, .f32⟩
  | 101 => ⟨S_, .f32⟩
  | 102 => ⟨S32x512x512x4, .f32⟩
  | 103 => ⟨S32x512x512x4, .i1⟩
  | 104 => ⟨S_, .f32⟩
  | 105 => ⟨S32x512x512x4, .f32⟩
  | 106 => ⟨S32x512x512x4, .f32⟩
  | 107 => ⟨S32x512x512x4, .f32⟩
  | 108 => ⟨S_, .i32⟩
  | 109 => ⟨S32x512x512, .i32⟩
  | 110 => ⟨S32x512x512, .i1⟩
  | 111 => ⟨S32x512x512x1, .i1⟩
  | 112 => ⟨S_, .f32⟩
  | 113 => ⟨S32x512x512x4, .i1⟩
  | 114 => ⟨S32x512x512x4, .f32⟩
  | 115 => ⟨S32x512x512x4, .f32⟩
  | 116 => ⟨S_, .f32⟩
  | 117 => ⟨S32x512x4, .f32⟩
  | 118 => ⟨S_, .f32⟩
  | 119 => ⟨S32x512x4, .f32⟩
  | 120 => ⟨S32x512x4, .f32⟩
  | 121 => ⟨S32x512x1x4, .f32⟩
  | 122 => ⟨S32x512x512x4, .f32⟩
  | 123 => ⟨S32x512x512x4, .f32⟩
  | 124 => ⟨S32x512x512x4, .f32⟩
  | 125 => ⟨S_, .f32⟩
  | 126 => ⟨S32x512x4, .f32⟩
  | 127 => ⟨S32x512x1x4, .f32⟩
  | _ => ⟨S2x512x32x64, .f32⟩

abbrev hbmTy0_2 (i : Nat) : BufTy := match i % 128 with
  | 0 => ⟨S32x512x512x4, .f32⟩
  | 1 => ⟨S32x512x512x4, .f32⟩
  | 2 => ⟨S32x4x16x512, .f32⟩
  | 3 => ⟨S32x512x4x16, .f32⟩
  | 4 => ⟨S32x512x64, .f32⟩
  | 5 => ⟨S_, .f32⟩
  | 6 => ⟨S32x512x64, .f32⟩
  | 7 => ⟨S32x512x64, .f32⟩
  | 8 => ⟨S2x16x512x64, .f32⟩
  | 9 => ⟨S2x512x16x64, .f32⟩
  | _ => ⟨S2x512x32x64, .f32⟩

abbrev hbmTy (i : Nat) : BufTy := match i / 128 with
  | 0 => hbmTy0_0 i
  | 1 => hbmTy0_1 i
  | 2 => hbmTy0_2 i
  | _ => ⟨S2x512x32x64, .f32⟩

abbrev bufTy : (tb : Table) → Fin (tcTables nBuf tb) → BufTy
  | .hbm, ⟨i, _⟩ => hbmTy i
  | _, _ => ⟨S2x512x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_0 : Ref sig .tc := ⟨.hbm, 50, rfl⟩
abbrev main_v24 : Ref sig .tc := ⟨.hbm, 51, rfl⟩
abbrev main_cst_1 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_2 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_3 : Ref sig .tc := ⟨.hbm, 72, rfl⟩
abbrev main_v43 : Ref sig .tc := ⟨.hbm, 73, rfl⟩
abbrev main_v44 : Ref sig .tc := ⟨.hbm, 74, rfl⟩
abbrev main_cst_4 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_5 : Ref sig .tc := ⟨.hbm, 81, rfl⟩
abbrev main_v50 : Ref sig .tc := ⟨.hbm, 82, rfl⟩
abbrev main_v51 : Ref sig .tc := ⟨.hbm, 83, rfl⟩
abbrev main_cst_6 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_7 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_values : Ref sig .tc := ⟨.hbm, 106, rfl⟩
abbrev main_indices : Ref sig .tc := ⟨.hbm, 107, rfl⟩
abbrev main_cst_8 : Ref sig .tc := ⟨.hbm, 108, rfl⟩
abbrev main_v72 : Ref sig .tc := ⟨.hbm, 109, rfl⟩
abbrev main_cst_9 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_10 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_11 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_c : Ref sig .tc := ⟨.hbm, 126, rfl⟩
abbrev main_v86 : Ref sig .tc := ⟨.hbm, 127, rfl⟩
abbrev main_v87 : Ref sig .tc := ⟨.hbm, 128, rfl⟩
abbrev main_c_12 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_c_13 : Ref sig .tc := ⟨.hbm, 133, rfl⟩
abbrev main_v91 : Ref sig .tc := ⟨.hbm, 134, rfl⟩
abbrev main_v92 : Ref sig .tc := ⟨.hbm, 135, rfl⟩
abbrev main_c_14 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_call0_cst : Ref sig .tc := ⟨.hbm, 149, rfl⟩
abbrev main_call0_v0 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_15 : Ref sig .tc := ⟨.hbm, 160, rfl⟩
abbrev main_v114 : Ref sig .tc := ⟨.hbm, 161, rfl⟩
abbrev main_v115 : Ref sig .tc := ⟨.hbm, 162, rfl⟩
abbrev main_cst_16 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_17 : Ref sig .tc := ⟨.hbm, 169, rfl⟩
abbrev main_v121 : Ref sig .tc := ⟨.hbm, 170, rfl⟩
abbrev main_v122 : Ref sig .tc := ⟨.hbm, 171, rfl⟩
abbrev main_cst_18 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_19 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_call1_cst : Ref sig .tc := ⟨.hbm, 193, rfl⟩
abbrev main_call1_v0 : Ref sig .tc := ⟨.hbm, 194, rfl⟩
abbrev main_call1_v1 : Ref sig .tc := ⟨.hbm, 195, rfl⟩
abbrev main_call1_cst_0 : Ref sig .tc := ⟨.hbm, 196, rfl⟩
abbrev main_call1_v2 : Ref sig .tc := ⟨.hbm, 197, rfl⟩
abbrev main_call1_v3 : Ref sig .tc := ⟨.hbm, 198, rfl⟩
abbrev main_call1_cst_1 : Ref sig .tc := ⟨.hbm, 199, rfl⟩
abbrev main_call1_call0_v0 : Ref sig .tc := ⟨.hbm, 200, rfl⟩
abbrev main_call1_call0_v1 : Ref sig .tc := ⟨.hbm, 201, rfl⟩
abbrev main_call1_v4 : Ref sig .tc := ⟨.hbm, 202, rfl⟩
abbrev main_call1_v5 : Ref sig .tc := ⟨.hbm, 203, rfl⟩
abbrev main_call1_cst_2 : Ref sig .tc := ⟨.hbm, 204, rfl⟩
abbrev main_call1_v6 : Ref sig .tc := ⟨.hbm, 205, rfl⟩
abbrev main_call1_v7 : Ref sig .tc := ⟨.hbm, 206, rfl⟩
abbrev main_v142 : Ref sig .tc := ⟨.hbm, 207, rfl⟩
abbrev main_v143 : Ref sig .tc := ⟨.hbm, 208, rfl⟩
abbrev main_cst_20 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_cst_21 : Ref sig .tc := ⟨.hbm, 228, rfl⟩
abbrev main_call2_cst : Ref sig .tc := ⟨.hbm, 229, rfl⟩
abbrev main_call2_v0 : Ref sig .tc := ⟨.hbm, 230, rfl⟩
abbrev main_call2_v1 : Ref sig .tc := ⟨.hbm, 231, rfl⟩
abbrev main_call2_v2 : Ref sig .tc := ⟨.hbm, 232, rfl⟩
abbrev main_call2_v3 : Ref sig .tc := ⟨.hbm, 233, rfl⟩
abbrev main_call2_v4 : Ref sig .tc := ⟨.hbm, 234, rfl⟩
abbrev main_v162 : Ref sig .tc := ⟨.hbm, 235, rfl⟩
abbrev main_c_22 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_cst_23 : Ref sig .tc := ⟨.hbm, 240, rfl⟩
abbrev main_call3_v0 : Ref sig .tc := ⟨.hbm, 241, rfl⟩
abbrev main_call3_v1 : Ref sig .tc := ⟨.hbm, 242, rfl⟩
abbrev main_v166 : Ref sig .tc := ⟨.hbm, 243, rfl⟩
abbrev main_cst_24 : Ref sig .tc := ⟨.hbm, 244, rfl⟩
abbrev main_v167 : Ref sig .tc := ⟨.hbm, 245, rfl⟩
abbrev main_cst_25 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_cst_26 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_call4_cst : Ref sig .tc := ⟨.hbm, 261, rfl⟩
abbrev main_call4_v0 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩

abbrev nD : Nat := 1
abbrev τ : Topo := Topo.v7x

variable {F : FTy → Type} [FloatOps F]
-- ==== Proof.KernelRun.lean ====
/- The idealized kernel program, run to its end: both calls and the host operations around them, one after the other.
   Every buffer that outlives the calls ends at the contents `Gen.W4` names (the host operations folded over the launch
   memory, each call's arrays replaced by what its write-backs leave). -/
module

public import proofs.«01_k».proof.Proof.Gen.KernelIdeal.Frame

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The token ghost the launch starts from, for the pipelines of both calls. -/
abbrev tok₀ : UR sig nD τ := initOf (Pipeline.cells cfgs cellOf_inj) (Pipeline.launchToks cfgs cellOf_inj)

set_option backward.isDefEq.respectTransparency.types false in
/-- Every weakly fair execution of the program terminates without a fault, and at its end each buffer that is not
    scoped to a call holds `Gen.W4`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := tok₀)
    (hu₀ := by
      have hnone : (BI.emp : sProp 𝕄) ⊢ bigSep Finset.univ (fun _ : Dev nD => (BI.emp : sProp 𝕄)) := by
        rw [BI.bigSep_emp_const]
      iintro Htok; imodintro
      isplitl [Htok]
      · iapply (show (ownU (tok₀) : sProp 𝕄) ⊢ BI.own (emb₁ tok₀) from .rfl)
        iexact Htok
      iapply hnone
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hbufs, Hreg, Hnone⟩
      isplitl [Hbufs Hreg]
      · isplitl [Hbufs] <;> iassumption
      iexact Hnone⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Hnone, -, Hreg, -⟩, -⟩
      imodintro
      isplitl [Hbufs]; · iexact Hbufs
      isplitl [Hreg]; · iexists _; iexact Hreg
      iexists ∅; iexact Hnone)
    (QY := fun c s => ∀ b ∈ Pipeline.ucRefs τ sig, s.mem (((c : Thread nD τ)).1, b) = W4 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W4 m ρ c) s')
      isplitl [Hbufs] <;> iassumption)
    (hQ := fun _ h _ => h)

/-- A reference that is not scoped to a call ends at `Gen.W4`. -/
theorem run_ref (b : Ref sig .tc) (h : ¬ (Proc.devRef .tc b : DevRef τ sig).isScoped) :
    θ_run defs (onTc (τ := τ) (main (F := F))) ⟨m, fun _ => 0, ρ⟩
      (fun r => ∀ c : Dev nD, r.2.mem ((c.tc : Thread nD τ).loc b) = W4 m ρ c (Proc.devRef .tc b)) :=
  (θ_run defs _ _).mono (fun _ h' c => h' c _ (mem_uc b h)) (run_all m ρ)

end Cert.KernelIdeal.Whole

end
-- ==== Proof.Spec.lean ====
/- The mathematics both programs compute, over the extended reals and by coordinates: attention of one sequence of 32
   positions, layer norms, the sixteen experts under their gates, the exponential unit, and one graph attention layer. -/
module

public import Idealize.ShloMosaic.Lib.Pointwise

@[expose] public section

noncomputable section

namespace Cert.Spec

open Idealize.ShloMosaic

/-- The greatest entry of a row, `⊥` for none. -/
def fmax {n : ℕ} (f : Fin n → EReal) : EReal := (Finset.univ : Finset (Fin n)).fold max ⊥ f

/-- The exponentials of a row, each against the row's greatest entry. -/
def sexp {n : ℕ} (f : Fin n → EReal) (i : Fin n) : EReal := Ideal.exp (f i - fmax f)

/-- The softmax of a row. -/
def smax {n : ℕ} (f : Fin n → EReal) (i : Fin n) : EReal := Ideal.div (sexp f i) (∑ j, sexp f j)

/-- One entry of an affine layer. -/
def lin {m n : ℕ} (x : Fin m → EReal) (W : Fin m → Fin n → EReal) (b : Fin n → EReal) (d : Fin n) : EReal :=
  (∑ k, x k * W k d) + b d

/-- Feature `j` of head `h`, among the 64 features. -/
def hd (h : Fin 4) (j : Fin 16) : Fin 64 := ⟨16 * h.val + j.val, by omega⟩

/-- The head a feature belongs to. -/
def head (d : Fin 64) : Fin 4 := ⟨d.val / 16, by omega⟩

/-- A feature's place in its head. -/
def off (d : Fin 64) : Fin 16 := ⟨d.val % 16, by omega⟩

/-- A feature is found again from its head and its place there. -/
theorem hd_head_off (d : Fin 64) : hd (head d) (off d) = d := by
  apply Fin.ext; simp only [hd, head, off]; omega

/-- The head of a feature given by head and place. -/
theorem head_hd (h : Fin 4) (j : Fin 16) : head (hd h j) = h := by
  apply Fin.ext; simp only [hd, head]; omega

/-- The place of a feature given by head and place. -/
theorem off_hd (h : Fin 4) (j : Fin 16) : off (hd h j) = j := by
  apply Fin.ext; simp only [hd, off]; omega

/-- Four pieces of sixteen features side by side: feature `d` lies in piece `head d` at `off d`. -/
theorem ladder {α : Type} (f : Fin 4 → Fin 16 → α) (d : Fin 64) :
    (if h : d.val < 16 then f 0 ⟨d.val, h⟩ else if h : d.val - 16 < 16 then f 1 ⟨d.val - 16, h⟩
      else if h : d.val - 16 - 16 < 16 then f 2 ⟨d.val - 16 - 16, h⟩ else f 3 ⟨d.val - 16 - 16 - 16, by omega⟩) = f (head d) (off d) := by
  split_ifs with h1 h2 h3
  · rw [show head d = 0 from Fin.ext (by simp only [head]; omega), show off d = ⟨d.val, h1⟩ from Fin.ext (by simp only [off]; omega)]
  · rw [show head d = 1 from Fin.ext (by simp only [head]; omega), show off d = ⟨d.val - 16, h2⟩ from Fin.ext (by simp only [off]; omega)]
  · rw [show head d = 2 from Fin.ext (by simp only [head]; omega), show off d = ⟨d.val - 16 - 16, h3⟩ from Fin.ext (by simp only [off]; omega)]
  · rw [show head d = 3 from Fin.ext (by simp only [head]; omega), show off d = ⟨d.val - 16 - 16 - 16, by omega⟩ from Fin.ext (by simp only [off]; omega)]

/-- The attention scale, one quarter. -/
def quarter : EReal := Ideal.ofBits .f32 0x3E800000#32

/-- The scaled score of a query row and a key row in head `h`. -/
def score (q k : Fin 64 → EReal) (h : Fin 4) : EReal := (∑ j, q (hd h j) * k (hd h j)) * quarter

/-- Attention of one sequence, position `t`, feature `d`. -/
def attn (Q K V : Fin 32 → Fin 64 → EReal) (t : Fin 32) (d : Fin 64) : EReal :=
  ∑ u, smax (fun u => score (Q t) (K u) (head d)) u * V u d

/-- The mean of 64 features. -/
def mean (y : Fin 64 → EReal) : EReal := Ideal.div (∑ k, y k) (Ideal.ofBits .f32 0x42800000#32)

/-- The variance of 64 features plus the layer norm's small constant. -/
def vareps (y : Fin 64 → EReal) : EReal :=
  Ideal.div (∑ k, (y k - mean y) * (y k - mean y)) (Ideal.ofBits .f32 0x42800000#32) + Ideal.ofBits .f32 0x3727C5AC#32

/-- The layer norm of 64 features. -/
def ln (y g b : Fin 64 → EReal) (d : Fin 64) : EReal :=
  Ideal.div (y d - mean y) (Ideal.sqrt (vareps y)) * g d + b d

/-- The first place of a row's greatest entry. -/
def top {n : ℕ} [NeZero n] (f : Fin n → EReal) : Fin n :=
  ((List.finRange n).find? fun i => decide (f i = fmax f)).getD 0

/-- A row with one entry taken out of the running. -/
def drop {n : ℕ} (f : Fin n → EReal) (i : Fin n) (j : Fin n) : EReal := if j = i then ⊥ else f j

/-- The exponential of the second greatest logit against the greatest. -/
def gt (L : Fin 16 → EReal) : EReal := Ideal.exp (fmax (drop L (top L)) - fmax L)

/-- The gate of expert `e`: the softmax of the two greatest logits at their places, zero elsewhere. -/
def gate (L : Fin 16 → EReal) (e : Fin 16) : EReal :=
  (if top L = e then Ideal.div 1 (1 + gt L) else 0) + (if top (drop L (top L)) = e then Ideal.div (gt L) (1 + gt L) else 0)

/-- What one expert returns. -/
def expert (h : Fin 64 → EReal) (w1 : Fin 64 → Fin 64 → EReal) (b1 : Fin 64 → EReal) (w2 : Fin 64 → Fin 64 → EReal)
    (b2 : Fin 64 → EReal) (d : Fin 64) : EReal := lin (fun k => max (lin h w1 b1 k) 0) w2 b2 d

/-- The exponential unit. -/
def elu (z : EReal) : EReal := if 0 < z then z else Ideal.exp (min z 0) - 1

/-- The parameters of the transformer block, by coordinates. -/
structure Par where
  /-- query weights -/
  Wq : Fin 64 → Fin 64 → EReal
  /-- key weights -/
  Wk : Fin 64 → Fin 64 → EReal
  /-- value weights -/
  Wv : Fin 64 → Fin 64 → EReal
  /-- query bias -/
  bq : Fin 64 → EReal
  /-- key bias -/
  bk : Fin 64 → EReal
  /-- value bias -/
  bv : Fin 64 → EReal
  /-- output weights -/
  Wo : Fin 64 → Fin 64 → EReal
  /-- output bias -/
  bo : Fin 64 → EReal
  /-- first norm's scale -/
  g1 : Fin 64 → EReal
  /-- first norm's shift -/
  c1 : Fin 64 → EReal
  /-- router weights -/
  Wr : Fin 64 → Fin 16 → EReal
  /-- router bias -/
  br : Fin 16 → EReal
  /-- experts' first weights -/
  W1 : Fin 16 → Fin 64 → Fin 64 → EReal
  /-- experts' first bias -/
  b1 : Fin 16 → Fin 64 → EReal
  /-- experts' second weights -/
  W2 : Fin 16 → Fin 64 → Fin 64 → EReal
  /-- experts' second bias -/
  b2 : Fin 16 → Fin 64 → EReal
  /-- second norm's scale -/
  g2 : Fin 64 → EReal
  /-- second norm's shift -/
  c2 : Fin 64 → EReal
  /-- distillation weights -/
  Wd : Fin 64 → Fin 64 → EReal
  /-- distillation bias -/
  bd : Fin 64 → EReal

/-- One row after attention, its residual and the first norm, from the sequence `X`. -/
def h1 (p : Par) (X : Fin 32 → Fin 64 → EReal) (t : Fin 32) : Fin 64 → EReal :=
  ln (fun d => X t d + lin (attn (fun u => lin (X u) p.Wq p.bq) (fun u => lin (X u) p.Wk p.bk) (fun u => lin (X u) p.Wv p.bv) t)
    p.Wo p.bo d) p.g1 p.c1

/-- The router's logits of a row. -/
def logits (p : Par) (h : Fin 64 → EReal) : Fin 16 → EReal := lin h p.Wr p.br

/-- The gated experts of a row. -/
def moe (p : Par) (h : Fin 64 → EReal) (d : Fin 64) : EReal :=
  ∑ e, gate (logits p h) e * expert h (p.W1 e) (p.b1 e) (p.W2 e) (p.b2 e) d

/-- A row from the first norm to the exponential unit. -/
def tail (p : Par) (h : Fin 64 → EReal) (d : Fin 64) : EReal :=
  elu (lin (ln (fun d => h d + moe p h d) p.g2 p.c2) p.Wd p.bd d)

/-- The distilled sequence: the greater of each two neighbouring positions. -/
def distill (p : Par) (X : Fin 32 → Fin 64 → EReal) (t : Fin 16) (d : Fin 64) : EReal :=
  fmax fun j : Fin 2 => tail p (h1 p X ⟨2 * t.val + j.val, by omega⟩) d

/-- The leaky unit of the graph layer. -/
def leaky (x : EReal) : EReal := if 0 ≤ x then x else Ideal.ofBits .f32 0x3E4CCCCD#32 * x

/-- The masked edge score from node `i` to node `j`. -/
def edge (S : Fin 512 → Fin 16 → EReal) (src dst : Fin 16 → EReal) (adj : Fin 512 → Fin 512 → BitVec 32) (i j : Fin 512) : EReal :=
  if (adj i j).toInt ≤ 0 then Ideal.ofBits .f32 0xCE6E6B28#32
  else leaky ((∑ k, S i k * src k) + ∑ k, S j k * dst k)

/-- One head of the graph attention. -/
def gatHead (S : Fin 512 → Fin 16 → EReal) (src dst : Fin 16 → EReal) (adj : Fin 512 → Fin 512 → BitVec 32) (i : Fin 512)
    (k : Fin 16) : EReal :=
  ∑ j, smax (edge S src dst adj i) j * S j k

/-- The graph attention layer on 512 nodes of 64 features. -/
def gat (X : Fin 512 → Fin 64 → EReal) (W : Fin 64 → Fin 64 → EReal) (src dst : Fin 4 → Fin 16 → EReal)
    (adj : Fin 512 → Fin 512 → BitVec 32) (i : Fin 512) (d : Fin 64) : EReal :=
  max (gatHead (fun i k => ∑ m, X i m * W m (hd (head d) k)) (src (head d)) (dst (head d)) adj i (off d)) 0

end Cert.Spec
-- ==== Proof.Consts.lean ====
/- The constants of both programs as extended reals. -/
module

public import proofs.«01_k».proof.Proof.Spec

@[expose] public section

noncomputable section

namespace Cert.Spec

open Idealize.ShloMosaic

/-- The pattern of minus infinity is `⊥`. -/
theorem c_ninf : Ideal.ofBits .f32 0xFF800000#32 = ⊥ := by
  simp [Ideal.ofBits, Ideal.ieee]

/-- The attention scale is one quarter. -/
theorem c_quarter : Ideal.ofBits .f32 0x3E800000#32 = ((1 / 4 : ℝ) : EReal) := by
  simp [Ideal.ofBits, Ideal.ieee, -EReal.coe_mul]; norm_num

/-- The head size is sixteen. -/
theorem c_sixteen : Ideal.ofBits .f32 0x41800000#32 = ((16 : ℝ) : EReal) := by
  simp [Ideal.ofBits, Ideal.ieee, -EReal.coe_mul]; norm_num

/-- The number of features is sixty-four. -/
theorem c_feat : Ideal.ofBits .f32 0x42800000#32 = ((64 : ℝ) : EReal) := by
  simp [Ideal.ofBits, Ideal.ieee, -EReal.coe_mul]; norm_num

/-- The layer norm's small constant is a positive real. -/
theorem c_eps : ∃ r : ℝ, 0 < r ∧ Ideal.ofBits .f32 0x3727C5AC#32 = (r : EReal) := by
  refine ⟨(10995116 : ℝ) * 2 ^ (-40 : ℤ), by positivity, ?_⟩
  simp [Ideal.ofBits, Ideal.ieee, -EReal.coe_mul]

/-- Zero minus a billion is minus a billion. -/
theorem c_neg_big : (0 : EReal) - Ideal.ofBits .f32 0x4E6E6B28#32 = Ideal.ofBits .f32 0xCE6E6B28#32 := by
  have h1 : Ideal.ofBits .f32 0x4E6E6B28#32 = ((1000000000 : ℝ) : EReal) := by
    simp [Ideal.ofBits, Ideal.ieee, -EReal.coe_mul]; norm_num
  have h2 : Ideal.ofBits .f32 0xCE6E6B28#32 = ((-1000000000 : ℝ) : EReal) := by
    simp [Ideal.ofBits, Ideal.ieee, -EReal.coe_mul, -EReal.coe_neg]; norm_num
  rw [h1, h2, zero_sub, ← EReal.coe_neg]

end Cert.Spec
-- ==== Proof.Top.lean ====
/- The greatest entry of a row and its first place. -/
module

public import proofs.«01_k».proof.Proof.Consts

@[expose] public section

noncomputable section

namespace Cert.Spec

open Idealize.ShloMosaic

/-- The greatest entry is an upper bound. -/
theorem le_fmax {n : ℕ} (f : Fin n → EReal) (i : Fin n) : f i ≤ fmax f := by
  unfold fmax
  exact (Finset.le_fold_max (f i)).mpr (Or.inr ⟨i, Finset.mem_univ i, le_rfl⟩)

/-- The greatest entry is the least upper bound. -/
theorem fmax_le {n : ℕ} (f : Fin n → EReal) (c : EReal) (h : ∀ i, f i ≤ c) : fmax f ≤ c := by
  unfold fmax
  exact (Finset.fold_max_le c).mpr ⟨bot_le, fun i _ => h i⟩

/-- A row with at least one entry attains its greatest entry. -/
theorem exists_fmax {n : ℕ} [NeZero n] (f : Fin n → EReal) : ∃ i, f i = fmax f := by
  obtain ⟨i, -, hi⟩ := Finset.exists_max_image (Finset.univ : Finset (Fin n)) f ⟨0, Finset.mem_univ 0⟩
  exact ⟨i, le_antisymm (le_fmax f i) (fmax_le f _ fun j => hi j (Finset.mem_univ j))⟩

/-- The first place of the greatest entry holds it, and no earlier place does. -/
theorem top_spec {n : ℕ} [NeZero n] (f : Fin n → EReal) : f (top f) = fmax f ∧ ∀ j < top f, f j ≠ fmax f := by
  obtain ⟨i, hi⟩ := exists_fmax f
  unfold top
  cases hq : (List.finRange n).find? (fun i => decide (f i = fmax f)) with
  | none =>
    have := List.find?_eq_none.mp hq i (List.mem_finRange i)
    simp [hi] at this
  | some k =>
    refine ⟨by simpa using List.find?_some hq, fun j hj => ?_⟩
    simp only [Option.getD_some] at hj
    obtain ⟨-, us, bs, hl, has⟩ := List.find?_eq_some_iff_append.mp hq
    have hjm : j ∈ us := by
      have hs : (us ++ k :: bs).Pairwise (· < ·) := hl ▸ List.pairwise_lt_finRange n
      have hm : j ∈ us ++ k :: bs := hl ▸ List.mem_finRange j
      rcases List.mem_append.mp hm with h | h
      · exact h
      · rcases List.mem_cons.mp h with h | h
        · exact absurd (h ▸ hj) (lt_irrefl _)
        · have := (List.pairwise_cons.mp (List.pairwise_append.mp hs).2.1).1 j h
          exact absurd (hj.trans this) (lt_irrefl _)
    simpa using has j hjm

/-- A place that holds the greatest entry, no earlier one holding it, is the first place. -/
theorem top_unique {n : ℕ} [NeZero n] (f : Fin n → EReal) (k : Fin n) (h : f k = fmax f) (hk : ∀ j < k, f j ≠ fmax f) : top f = k := by
  obtain ⟨h1, h2⟩ := top_spec f
  rcases lt_trichotomy (top f) k with hl | he | hl
  · exact absurd h1 (hk _ hl)
  · exact he
  · exact absurd h (h2 _ hl)

/-- Place numbers as words, least first: the least number among the places holding the greatest entry is the first place. -/
theorem minsi_top (f : Fin 16 → EReal) :
    (Finset.univ : Finset (Fin 16)).fold IntOp.minsi 2147483647#32 (fun e => if f e = fmax f then BitVec.ofNat 32 e.val else 16#32) =
      BitVec.ofNat 32 (top f).val := by
  obtain ⟨h1, h2⟩ := top_spec f
  have ht (e : Fin 16) : (BitVec.ofNat 32 e.val).toInt = (e.val : ℤ) := by
    rw [show BitVec.ofNat 32 e.val = BitVec.ofInt 32 e.val from rfl, BitVec.toInt_ofInt]; simp only [Int.bmod]; omega
  apply BitVec.eq_of_toInt_eq
  have hm : ∀ x y : BitVec 32, (IntOp.minsi x y).toInt = min x.toInt y.toInt := by
    intro x y
    unfold IntOp.minsi
    simp only [BitVec.slt_eq_decide, BitVec.sle_eq_decide]
    split <;> simp_all <;> omega
  rw [← Finset.fold_hom (op' := (min : ℤ → ℤ → ℤ)) (m := BitVec.toInt) hm, ht]
  apply le_antisymm
  · refine (Finset.fold_min_le _).mpr (Or.inr ⟨top f, Finset.mem_univ _, ?_⟩)
    simp only [h1, if_true, ht, le_refl]
  · refine (Finset.le_fold_min _).mpr ⟨by have := (top f).isLt; simp; omega, fun e _ => ?_⟩
    by_cases he : f e = fmax f
    · simp only [he, if_true, ht]
      have : ¬ e < top f := fun hl => h2 e hl he
      have := not_lt.mp this
      exact_mod_cast this
    · simp only [he, if_false]
      have := (top f).isLt; simp

end Cert.Spec
-- ==== Proof.Reals.lean ====
/- Extended reals that are reals: closed under the operations up to the router's logits; and the softmax of a row that is
   `⊥` outside a class of places, which is the softmax of the class alone. -/
module

public import proofs.«01_k».proof.Proof.Top

@[expose] public section

noncomputable section

namespace Cert.Spec

open Idealize.ShloMosaic

/-- The extended real is a real. -/
def IsR (x : EReal) : Prop := ∃ r : ℝ, x = (r : EReal)

/-- A sum of two reals. -/
theorem IsR.add {x y : EReal} (hx : IsR x) (hy : IsR y) : IsR (x + y) := by
  obtain ⟨a, rfl⟩ := hx; obtain ⟨b, rfl⟩ := hy; exact ⟨a + b, (EReal.coe_add a b).symm⟩

/-- A difference of two reals. -/
theorem IsR.sub {x y : EReal} (hx : IsR x) (hy : IsR y) : IsR (x - y) := by
  obtain ⟨a, rfl⟩ := hx; obtain ⟨b, rfl⟩ := hy; exact ⟨a - b, (EReal.coe_sub a b).symm⟩

/-- A product of two reals. -/
theorem IsR.mul {x y : EReal} (hx : IsR x) (hy : IsR y) : IsR (x * y) := by
  obtain ⟨a, rfl⟩ := hx; obtain ⟨b, rfl⟩ := hy; exact ⟨a * b, (EReal.coe_mul a b).symm⟩

/-- A finite sum of reals. -/
theorem IsR.sum {ι : Type} (s : Finset ι) {f : ι → EReal} (h : ∀ i, IsR (f i)) : IsR (∑ i ∈ s, f i) := by
  classical
  induction s using Finset.induction_on with
  | empty => exact ⟨0, by simp⟩
  | insert a s ha ih => rw [Finset.sum_insert ha]; exact (h a).add ih

/-- A finite sum of reals is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The quotient of two reals, the second not zero. -/
theorem IsR.div {x y : EReal} (hx : IsR x) (hy : IsR y) (h0 : y ≠ 0) : IsR (Ideal.div x y) := by
  obtain ⟨b, rfl⟩ := hy
  rw [Ideal.div_coe (by intro h; exact h0 (by rw [h]; rfl))]
  exact hx.mul ⟨_, rfl⟩

/-- The exponential of a real. -/
theorem IsR.exp {x : EReal} (hx : IsR x) : IsR (Ideal.exp x) := by
  obtain ⟨a, rfl⟩ := hx; exact ⟨_, Ideal.exp_coe a⟩

/-- The greatest entry of a nonempty row of reals. -/
theorem IsR.fmax {n : ℕ} [NeZero n] {f : Fin n → EReal} (h : ∀ i, IsR (f i)) : IsR (fmax f) := by
  obtain ⟨i, hi⟩ := exists_fmax f; exact hi ▸ h i

/-- Exponentials are not negative. -/
theorem exp_nonneg (x : EReal) : 0 ≤ Ideal.exp x := by
  induction x using EReal.rec with
  | bot => simp
  | coe a => rw [Ideal.exp_coe]; exact_mod_cast (Real.exp_pos a).le
  | top => simp

/-- A difference of a real with itself is zero. -/
theorem IsR.sub_self {x : EReal} (hx : IsR x) : x - x = 0 := by
  obtain ⟨a, rfl⟩ := hx; rw [← EReal.coe_sub, _root_.sub_self]; rfl

/-- The exponentials of a nonempty row of reals sum to at least one. -/
theorem one_le_sexp {n : ℕ} [NeZero n] {f : Fin n → EReal} (h : IsR (Spec.fmax f)) : 1 ≤ ∑ j, sexp f j := by
  obtain ⟨i, hi⟩ := exists_fmax f
  have h1 : sexp f i = 1 := by
    unfold sexp; rw [hi, h.sub_self]
    exact (Ideal.exp_coe 0).trans (by simp)
  rw [← h1]
  exact Finset.single_le_sum (f := fun j => sexp f j) (fun j _ => exp_nonneg _) (Finset.mem_univ i)

/-- The softmax of a nonempty row of reals. -/
theorem IsR.smax {n : ℕ} [NeZero n] {f : Fin n → EReal} (h : ∀ i, IsR (f i)) (i : Fin n) : IsR (smax f i) := by
  have hm := IsR.fmax h
  have he (j : Fin n) : IsR (sexp f j) := ((h j).sub hm).exp
  refine (he i).div (IsR.sum _ he) ?_
  have := one_le_sexp hm
  intro h0; rw [h0] at this; exact absurd this (by norm_num)

/-- An entry of an affine layer with real operands. -/
theorem IsR.lin {m n : ℕ} {x : Fin m → EReal} {W : Fin m → Fin n → EReal} {b : Fin n → EReal} (hx : ∀ k, IsR (x k))
    (hW : ∀ k d, IsR (W k d)) (hb : ∀ d, IsR (b d)) (d : Fin n) : IsR (lin x W b d) :=
  (IsR.sum _ fun k => (hx k).mul (hW k d)).add (hb d)

/-- A score of real rows. -/
theorem IsR.score {q k : Fin 64 → EReal} (hq : ∀ d, IsR (q d)) (hk : ∀ d, IsR (k d)) (h : Fin 4) : IsR (score q k h) :=
  (IsR.sum _ fun j => (hq _).mul (hk _)).mul ⟨_, c_quarter⟩

/-- Attention of real sequences. -/
theorem IsR.attn {Q K V : Fin 32 → Fin 64 → EReal} (hQ : ∀ t d, IsR (Q t d)) (hK : ∀ t d, IsR (K t d)) (hV : ∀ t d, IsR (V t d))
    (t : Fin 32) (d : Fin 64) : IsR (attn Q K V t d) :=
  IsR.sum _ fun u => (IsR.smax (fun u => IsR.score (hQ t) (hK u) _) u).mul (hV u d)

/-- The mean of real features. -/
theorem IsR.mean {y : Fin 64 → EReal} (hy : ∀ d, IsR (y d)) : IsR (mean y) :=
  (IsR.sum _ hy).div ⟨_, c_feat⟩ (by rw [c_feat]; norm_num)

/-- The layer norm of real features. -/
theorem IsR.ln {y g b : Fin 64 → EReal} (hy : ∀ d, IsR (y d)) (hg : ∀ d, IsR (g d)) (hb : ∀ d, IsR (b d)) (d : Fin 64) : IsR (ln y g b d) := by
  have hm := IsR.mean hy
  obtain ⟨e, he, hee⟩ := c_eps
  choose z hz using fun k => (hy k).sub hm
  have hv : vareps y = (((∑ k, z k * z k) * (1 / 64) + e : ℝ) : EReal) := by
    unfold vareps
    simp only [hz, ← EReal.coe_mul]
    rw [c_feat, Ideal.div_coe (by norm_num), hee, sum_coe, ← EReal.coe_mul, ← EReal.coe_add]
  have hp : 0 < (∑ k, z k * z k) * (1 / 64) + e := by
    have : 0 ≤ ∑ k, z k * z k := Finset.sum_nonneg fun k _ => mul_self_nonneg _
    positivity
  have hs : Ideal.sqrt (vareps y) = ((Real.sqrt ((∑ k, z k * z k) * (1 / 64) + e) : ℝ) : EReal) := by
    rw [hv, Ideal.sqrt_coe, if_neg (not_lt.mpr hp.le)]
  unfold Spec.ln
  refine (IsR.mul (((hy d).sub hm).div ⟨_, hs⟩ ?_) (hg d)).add (hb d)
  rw [hs]
  exact_mod_cast (Real.sqrt_pos.mpr hp).ne'

/-- The place of position `u` of the sequence that row `r` belongs to. -/
def cell (u : Fin 32) (r : Fin 256) : Fin 256 := ⟨u.val * 8 + r.val % 8, by omega⟩

/-- The softmax of a row that is `⊥` outside the places of one sequence weighs that sequence alone. -/
theorem masked_softmax (f V : Fin 256 → EReal) (r : Fin 256) (hf : ∀ c, IsR (f c)) :
    ∑ c, smax (fun c => if r.val % 8 = c.val % 8 then f c else ⊥) c * V c =
      ∑ u : Fin 32, smax (fun u => f (cell u r)) u * V (cell u r) := by
  set F : Fin 256 → EReal := fun c => if r.val % 8 = c.val % 8 then f c else ⊥ with hF
  have hinj : Function.Injective (fun u => cell u r) := by
    intro a b h
    have := congrArg Fin.val h
    simp only [cell] at this
    exact Fin.ext (by omega)
  have hcell (u : Fin 32) : F (cell u r) = f (cell u r) := by
    simp only [hF, cell]; rw [if_pos (by omega)]
  have hout (c : Fin 256) (hc : c ∉ Set.range fun u => cell u r) : F c = ⊥ := by
    simp only [hF]
    rw [if_neg]
    intro h
    exact hc ⟨⟨c.val / 8, by omega⟩, Fin.ext (by simp only [cell]; omega)⟩
  have hM : fmax F = fmax fun u => f (cell u r) := by
    apply le_antisymm
    · refine fmax_le _ _ fun c => ?_
      by_cases hc : c ∈ Set.range fun u => cell u r
      · obtain ⟨u, rfl⟩ := hc
        rw [hcell]; exact le_fmax (fun u => f (cell u r)) u
      · rw [hout c hc]; exact bot_le
    · refine fmax_le _ _ fun u => ?_
      rw [← hcell]; exact le_fmax F _
  have hE (c : Fin 256) (hc : c ∉ Set.range fun u => cell u r) : sexp F c = 0 := by
    unfold sexp; rw [hout c hc, EReal.bot_sub]; rfl
  have hI (u : Fin 32) : sexp (fun u => f (cell u r)) u = sexp F (cell u r) := by
    unfold sexp; rw [hcell, hM]
  have hS : ∑ c, sexp F c = ∑ u, sexp (fun u => f (cell u r)) u :=
    (Fintype.sum_of_injective (fun u => cell u r) hinj _ _ hE hI).symm
  have h1 : 1 ≤ ∑ u, sexp (fun u => f (cell u r)) u := one_le_sexp (IsR.fmax fun u => hf _)
  have h0 : ∑ u, sexp (fun u => f (cell u r)) u ≠ 0 := by
    intro h; rw [h] at h1; exact absurd h1 (by norm_num)
  refine (Fintype.sum_of_injective (fun u => cell u r) hinj _ _ (fun c hc => ?_) fun u => ?_).symm
  · unfold smax; rw [hE c hc, hS, Ideal.div, if_neg h0, zero_mul, zero_mul]
  · unfold smax; rw [hI, hS]

end Cert.Spec
-- ==== Proof.Blk.lean ====
/- One block of the transformer call, from the first norm on: the sixteen experts under their gates, the second norm, the
   distillation layer, the exponential unit and the greater of each two neighbouring positions. -/
module

public import proofs.«01_k».proof.Proof.Consts
public import proofs.«01_k».proof.Proof.Gen.KernelIdeal.Frame

@[expose] public section

set_option maxRecDepth 16384

noncomputable section

namespace Cert.KernelIdeal.Blk

open Cert.KernelIdeal.Gen Cert.Spec
open Idealize.ShloMosaic

/-- An affine layer of 256 rows, as printed. -/
def linV (x : FVec Ideal S256x64 .f32) (w : Vec Ideal S64x64 .f32) (b : Vec Ideal S1x64 .f32) : FVec Ideal S256x64 .f32 :=
  addf (matmul (φ₁ := .f32) (φ₂ := .f32) dot_S256x64_S64x64_S256x64_1_0_0_1_n_n none x w (constant S256x64 .f32 0x00000000#32))
    (broadcastTo S256x64 (shapeCast S1x64 b shapeCasts_S1x64_S1x64) broadcasts_S1x64_S256x64)

/-- The mean of each row, as printed. -/
def meanV (y : FVec Ideal S256x64 .f32) : FVec Ideal S256x1 .f32 :=
  divf (shapeCast S256x1 (multiReduction .add [1] S256 y 0x00000000#32 reduces_S256x64_S256 (.inl rfl) rfl) shapeCasts_S256_S256x1)
    (broadcast S256x1 (Scalar.ofBits .f32 0x42800000#32))

/-- Each row less its mean, as printed. -/
def cenV (y : FVec Ideal S256x64 .f32) : FVec Ideal S256x64 .f32 := subf y (broadcastTo S256x64 (meanV y) broadcasts_S256x1_S256x64)

/-- The layer norm of each row, as printed. -/
def lnV (y : FVec Ideal S256x64 .f32) (g c : Vec Ideal S1x64 .f32) : FVec Ideal S256x64 .f32 :=
  addf (mulf (divf (cenV y) (broadcastTo S256x64 (sqrt (addf (meanV (mulf (cenV y) (cenV y))) (broadcast S256x1 (Scalar.ofBits .f32 0x3727C5AC#32)))) broadcasts_S256x1_S256x64))
    (broadcastTo S256x64 (shapeCast S1x64 g shapeCasts_S1x64_S1x64) broadcasts_S1x64_S256x64))
    (broadcastTo S256x64 (shapeCast S1x64 c shapeCasts_S1x64_S1x64) broadcasts_S1x64_S256x64)

/-- The gate of the expert numbered `e` for each row, as printed. -/
def gateV (i1 i2 : IVec S256x1 32) (g1 g2 : FVec Ideal S256x1 .f32) (e : BitVec 32) : FVec Ideal S256x1 .f32 :=
  addf (select (cmpi .eq i1 (broadcast S256x1 e)) g1 (broadcast S256x1 (Scalar.ofBits .f32 0x00000000#32)))
    (select (cmpi .eq i2 (broadcast S256x1 e)) g2 (broadcast S256x1 (Scalar.ofBits .f32 0x00000000#32)))

/-- The affine layer at row `r`. -/
theorem lin_at (x : FVec Ideal S256x64 .f32) (w : Vec Ideal S64x64 .f32) (b : Vec Ideal S1x64 .f32) (r : Fin 256) (d : Fin 64) :
    linV x w b (ix2 r d) = lin (fun k => x (ix2 r k)) (fun k d => w (ix2 k d)) (fun d => b (ix2 0 d)) d := by
  pointwise [linV]
  rfl

/-- The mean of row `r`. -/
theorem mean_at (y : FVec Ideal S256x64 .f32) (r : Fin 256) :
    meanV y (ix2 r 0) = mean fun k => y (ix2 r k) := by
  pointwise [meanV]
  rfl

/-- Row `r` less its mean. -/
theorem cen_at (y : FVec Ideal S256x64 .f32) (r : Fin 256) (d : Fin 64) :
    cenV y (ix2 r d) = y (ix2 r d) - mean fun k => y (ix2 r k) := by
  pointwise [cenV, mean_at]

/-- The layer norm of row `r`. -/
theorem ln_at (y : FVec Ideal S256x64 .f32) (g c : Vec Ideal S1x64 .f32) (r : Fin 256) (d : Fin 64) :
    lnV y g c (ix2 r d) = ln (fun k => y (ix2 r k)) (fun d => g (ix2 0 d)) (fun d => c (ix2 0 d)) d := by
  have e2 : meanV (mulf (cenV y) (cenV y)) (ix2 r 0) = mean fun k => (y (ix2 r k) - mean fun k => y (ix2 r k)) * (y (ix2 r k) - mean fun k => y (ix2 r k)) := by
    rw [mean_at]; exact congrArg mean (funext fun k => by pointwise [cen_at])
  unfold lnV
  generalize meanV (mulf (cenV y) (cenV y)) = u at *
  pointwise [cen_at]
  rw [e2]
  rfl

/-- One expert's contribution at row `r`. -/
theorem step_at (h acc : FVec Ideal S256x64 .f32) (w : FVec Ideal S256x1 .f32) (a1 : Vec Ideal S1x64x64 .f32) (b1 : Vec Ideal S1x64 .f32)
    (a2 : Vec Ideal S1x64x64 .f32) (b2 : Vec Ideal S1x64 .f32) (r : Fin 256) (d : Fin 64) :
    k0_pay32 h acc w a1 b1 a2 b2 (ix2 r d) = acc (ix2 r d) + w (ix2 r 0) * expert (fun k => h (ix2 r k)) (fun k m => a1 (ix3 0 k m)) (fun m => b1 (ix2 0 m)) (fun k m => a2 (ix3 0 k m)) (fun m => b2 (ix2 0 m)) d := by
  pointwise [k0_pay32]
  rfl

/-- A choice by an equality of words. -/
theorem select_eq (a b : BitVec 32) (x y : EReal) : Scalar.select (IntOp.cmpi .eq a b) x y = if a = b then x else y := by
  by_cases h : a = b
  · simp [Scalar.select, IntOp.cmpi, BitVec.ofBool, h]
  · simp [Scalar.select, IntOp.cmpi, BitVec.ofBool, h, beq_eq_false_iff_ne.mpr h]

/-- A gate at row `r`. -/
theorem gate_at (i1 i2 : IVec S256x1 32) (g1 g2 : FVec Ideal S256x1 .f32) (e : BitVec 32) (r : Fin 256) :
    gateV i1 i2 g1 g2 e (ix2 r 0) = (if i1 (ix2 r 0) = e then g1 (ix2 r 0) else 0) + (if i2 (ix2 r 0) = e then g2 (ix2 r 0) else 0) := by
  pointwise [gateV]
  simp only [select_eq]

/-- The printed text from the first norm to the distillation layer's value. -/
def printed (h : FVec Ideal S256x64 .f32) (i1 i2 : IVec S256x1 32) (g1 g2 : FVec Ideal S256x1 .f32)
    (a1 : Fin 16 → Vec Ideal S1x64x64 .f32) (b1 : Fin 16 → Vec Ideal S1x64 .f32) (a2 : Fin 16 → Vec Ideal S1x64x64 .f32)
    (b2 : Fin 16 → Vec Ideal S1x64 .f32) (w0 : FVec Ideal S256x1 .f32) (g c : Vec Ideal S1x64 .f32) (W : Vec Ideal S64x64 .f32) (b : Vec Ideal S1x64 .f32) : FVec Ideal S256x64 .f32 :=
  k0_pay63 h (k0_pay60 h (k0_pay58 h i1 i2 g1 g2 (k0_pay55 (k0_pay52 h i2 g2 (k0_pay50 h i1 i2 g1 g2 (k0_pay47 h (k0_pay45 h i1 i2 g1 g2 (k0_pay42 (k0_pay38 h i2 g2 (k0_pay36 h i1 i2 g1 g2 (k0_pay32 h k0_pay30 w0 (a1 0) (b1 0) (a2 0) (b2 0)) (k0_pay33 i1 i2 g1 g2) (k0_pay34 h (a1 1) (b1 1)) (k0_pay35 (a2 1)) (b2 1) (a1 2) (b1 2) (a2 2) (b2 2)) (k0_pay37 i1 g1) 3#32 (a1 3) (b1 3) (a2 3) (b2 3)) (k0_pay39 i1 i2 g1 g2) (k0_pay40 h (a1 4)) (k0_pay41 (b1 4)) (a2 4) (b2 4)) (k0_pay43 h (a1 5) (b1 5) (a2 5) (b2 5)) (k0_pay44 i1 i2 g1 g2) (a1 6) (b1 6) (a2 6) (b2 6)) (k0_pay46 i1 i2 g1 g2) (a1 7) (b1 7) (a2 7) (b2 7)) (k0_pay48 i1 i2 g1 g2) (k0_pay49 h (a1 8) (b1 8)) (a2 8) (b2 8) (a1 9) (b1 9) (a2 9) (b2 9)) (k0_pay51 i1 g1) (a1 10) (b1 10) (a2 10) (b2 10)) (k0_pay53 i1 i2 g1 g2) (k0_pay54 h (a1 11)) (b1 11) (a2 11) (b2 11)) (k0_pay56 i1 i2 g1 g2) (k0_pay57 h (a1 12) (b1 12) (a2 12) (b2 12)) (a1 13) (b1 13) (a2 13) (b2 13)) (k0_pay59 i1 i2 g1 g2) (a1 14) (b1 14) (a2 14) (b2 14)) (k0_pay61 i1 i2 g1 g2) (k0_pay62 h (a1 15) (b1 15)) (a2 15) (b2 15) g c W b

/-- The sixteen experts one after the other. -/
def moeV (h : FVec Ideal S256x64 .f32) (i1 i2 : IVec S256x1 32) (g1 g2 : FVec Ideal S256x1 .f32)
    (a1 : Fin 16 → Vec Ideal S1x64x64 .f32) (b1 : Fin 16 → Vec Ideal S1x64 .f32) (a2 : Fin 16 → Vec Ideal S1x64x64 .f32)
    (b2 : Fin 16 → Vec Ideal S1x64 .f32) : FVec Ideal S256x64 .f32 :=
  (k0_pay32 h (k0_pay32 h (k0_pay32 h (k0_pay32 h (k0_pay32 h (k0_pay32 h (k0_pay32 h (k0_pay32 h (k0_pay32 h (k0_pay32 h (k0_pay32 h (k0_pay32 h (k0_pay32 h (k0_pay32 h (k0_pay32 h (k0_pay32 h k0_pay30 (gateV i1 i2 g1 g2 0#32) (a1 0) (b1 0) (a2 0) (b2 0)) (gateV i1 i2 g1 g2 1#32) (a1 1) (b1 1) (a2 1) (b2 1)) (gateV i1 i2 g1 g2 2#32) (a1 2) (b1 2) (a2 2) (b2 2)) (gateV i1 i2 g1 g2 3#32) (a1 3) (b1 3) (a2 3) (b2 3)) (gateV i1 i2 g1 g2 4#32) (a1 4) (b1 4) (a2 4) (b2 4)) (gateV i1 i2 g1 g2 5#32) (a1 5) (b1 5) (a2 5) (b2 5)) (gateV i1 i2 g1 g2 6#32) (a1 6) (b1 6) (a2 6) (b2 6)) (gateV i1 i2 g1 g2 7#32) (a1 7) (b1 7) (a2 7) (b2 7)) (gateV i1 i2 g1 g2 8#32) (a1 8) (b1 8) (a2 8) (b2 8)) (gateV i1 i2 g1 g2 9#32) (a1 9) (b1 9) (a2 9) (b2 9)) (gateV i1 i2 g1 g2 10#32) (a1 10) (b1 10) (a2 10) (b2 10)) (gateV i1 i2 g1 g2 11#32) (a1 11) (b1 11) (a2 11) (b2 11)) (gateV i1 i2 g1 g2 12#32) (a1 12) (b1 12) (a2 12) (b2 12)) (gateV i1 i2 g1 g2 13#32) (a1 13) (b1 13) (a2 13) (b2 13)) (gateV i1 i2 g1 g2 14#32) (a1 14) (b1 14) (a2 14) (b2 14)) (gateV i1 i2 g1 g2 15#32) (a1 15) (b1 15) (a2 15) (b2 15))

/-- The printed text is the sixteen experts, the residual, the second norm and the distillation layer. -/
theorem printed_eq (h : FVec Ideal S256x64 .f32) (i1 i2 : IVec S256x1 32) (g1 g2 : FVec Ideal S256x1 .f32)
    (a1 : Fin 16 → Vec Ideal S1x64x64 .f32) (b1 : Fin 16 → Vec Ideal S1x64 .f32) (a2 : Fin 16 → Vec Ideal S1x64x64 .f32)
    (b2 : Fin 16 → Vec Ideal S1x64 .f32) (g c : Vec Ideal S1x64 .f32) (W : Vec Ideal S64x64 .f32) (b : Vec Ideal S1x64 .f32) :
    printed h i1 i2 g1 g2 a1 b1 a2 b2 (gateV i1 i2 g1 g2 0#32) g c W b = linV (lnV (addf h (moeV h i1 i2 g1 g2 a1 b1 a2 b2)) g c) W b := rfl

/-- The sixteen experts at row `r`. -/
theorem moe_at (h : FVec Ideal S256x64 .f32) (i1 i2 : IVec S256x1 32) (g1 g2 : FVec Ideal S256x1 .f32)
    (a1 : Fin 16 → Vec Ideal S1x64x64 .f32) (b1 : Fin 16 → Vec Ideal S1x64 .f32) (a2 : Fin 16 → Vec Ideal S1x64x64 .f32)
    (b2 : Fin 16 → Vec Ideal S1x64 .f32) (r : Fin 256) (d : Fin 64) :
    moeV h i1 i2 g1 g2 a1 b1 a2 b2 (ix2 r d) = ∑ e : Fin 16, gateV i1 i2 g1 g2 (BitVec.ofNat 32 e.val) (ix2 r 0) *
      expert (fun k => h (ix2 r k)) (fun k m => a1 e (ix3 0 k m)) (fun m => b1 e (ix2 0 m)) (fun k m => a2 e (ix3 0 k m)) (fun m => b2 e (ix2 0 m)) d := by
  have h0 : (k0_pay30 : FVec Ideal S256x64 .f32) (ix2 r d) = 0 := by pointwise [k0_pay30]
  simp only [moeV, step_at, h0]
  simp only [Fin.sum_univ_castSucc, Finset.univ_eq_empty, Finset.sum_empty]
  rfl

/-- The exponential unit and the greater of two neighbouring positions. -/
theorem pay1_at (z : FVec Ideal S256x64 .f32) (t : Fin 16) (s : Fin 8) (d : Fin 64) :
    k0_pay1 z (Scalar.ofBits .f32 0x00000000#32) (ix3 t s d) = fmax fun j : Fin 2 => elu (z (ix2 ⟨(2 * t.val + j.val) * 8 + s.val, by omega⟩ d)) := by
  pointwise [k0_pay1]
  rw [c_ninf]
  refine congrArg (fun f => Finset.fold max ⊥ f Finset.univ) (funext fun x => ?_)
  have e : (⟨t.val * 16 + x.val * 8 + s.val, by omega⟩ : Fin 256) = ⟨(2 * t.val + x.val) * 8 + s.val, by omega⟩ := Fin.ext (by simp only; omega)
  rw [e]
  rfl

end Cert.KernelIdeal.Blk
-- ==== Proof.Attn.lean ====
/- Attention in one block of the transformer call: eight sequences of 32 positions lie in 256 rows, position by position; a
   row attends to the rows of its own sequence. -/
module

public import proofs.«01_k».proof.Proof.Reals
public import proofs.«01_k».proof.Proof.Blk

@[expose] public section

set_option maxRecDepth 16384

noncomputable section

namespace Cert.KernelIdeal.Blk

open Cert.KernelIdeal.Gen Cert.Spec
open Idealize.ShloMosaic

/-- The mask, as printed. -/
def maskV : IVec S256x256 1 :=
  k0_pay9 (iota .tc S256x256 32 [1] iota_S256x256_d1_w32) (Scalar.select (Scalar.cmpi .eq 8#32 0#32) 1#32 8#32) k0_pay6 k0_pay7 k0_pay8

/-- A word's remainder by eight, as the program computes it: the remainder, eight added when it is negative. -/
def rem8 (n : Fin 256) : BitVec 32 :=
  let v24 : BitVec 32 := Scalar.select (Scalar.cmpi .eq 8#32 0#32) 1#32 8#32
  let q := IntOp.remsi .vector (BitVec.ofNat 32 n.val) v24
  Scalar.select (IntOp.andi (IntOp.xori (IntOp.cmpi .slt q 0#32) (IntOp.cmpi .slt v24 0#32)) (IntOp.cmpi .ne q 0#32)) (IntOp.addi q v24) q

/-- It is the remainder. -/
theorem rem8_eq : ∀ n : Fin 256, rem8 n = BitVec.ofNat 32 (n.val % 8) := by decide +kernel

/-- An equality of words as a bit. -/
theorem cmpi_eq_iff (a b : BitVec 32) : IntOp.cmpi .eq a b = 1#1 ↔ a = b := by
  by_cases h : a = b
  · simp [IntOp.cmpi, BitVec.ofBool, h]
  · simp [IntOp.cmpi, BitVec.ofBool, h, beq_eq_false_iff_ne.mpr h]

/-- The mask holds within a sequence. -/
theorem mask_at (r c : Fin 256) : maskV (ix2 r c) = 1#1 ↔ r.val % 8 = c.val % 8 := by
  have h : maskV (ix2 r c) = IntOp.cmpi .eq (rem8 r) (rem8 c) := by
    pointwise [maskV, k0_pay9, k0_pay6, k0_pay7, k0_pay8]
    rfl
  rw [h, rem8_eq, rem8_eq, cmpi_eq_iff]
  refine ⟨fun h => ?_, fun h => by rw [h]⟩
  have := congrArg BitVec.toNat h
  simp only [BitVec.toNat_ofNat] at this
  omega

/-- The exponentials of the rows of a square of scores, as printed. -/
def expV (v : FVec Ideal S256x256 .f32) : FVec Ideal S256x256 .f32 :=
  exp (subf v (broadcastTo S256x256 (shapeCast S256x1 (multiReduction .maximumf [1] S256 v 0xFF800000#32 reduces_S256x256_S256 (.inl rfl) rfl) shapeCasts_S256_S256x1) broadcasts_S256x1_S256x256))

/-- The softmax of the rows of a square of scores, as printed. -/
def softV (v : FVec Ideal S256x256 .f32) : FVec Ideal S256x256 .f32 :=
  divf (expV v) (broadcastTo S256x256 (shapeCast S256x1 (multiReduction .add [1] S256 (expV v) 0x00000000#32 reduces_S256x256_S256 (.inl rfl) rfl) shapeCasts_S256_S256x1) broadcasts_S256x1_S256x256)

/-- One head's masked scores, as printed. -/
def scoreV (m : IVec S256x256 1) (q k : FVec Ideal S256x16 .f32) : FVec Ideal S256x256 .f32 :=
  select m (mulf (matmul (φ₁ := .f32) (φ₂ := .f32) dot_S256x16_S256x16_S256x256_1_1_0_0_n_n none q k (constant S256x256 .f32 0x00000000#32)) (broadcast S256x256 (Scalar.ofBits .f32 0x3E800000#32)))
    (broadcast S256x256 (Named.named κ "mask" 0xCE6E6B28#32))

/-- One head, as printed. -/
def headV (m : IVec S256x256 1) (q k v : FVec Ideal S256x16 .f32) : FVec Ideal S256x16 .f32 :=
  matmul (φ₁ := .f32) (φ₂ := .f32) dot_S256x256_S256x16_S256x16_1_0_0_1_n_n none (softV (scoreV m q k)) v (constant S256x16 .f32 0x00000000#32)

/-- The 16 features of head `h`. -/
def cut (x : FVec Ideal S256x64 .f32) : Fin 4 → FVec Ideal S256x16 .f32 :=
  ![extractStridedSlice S256x16 ![0, 0] x slices_S256x64_o0_0_S256x16,
    extractStridedSlice S256x16 ![0, 16] x slices_S256x64_o0_16_S256x16,
    extractStridedSlice S256x16 ![0, 32] x slices_S256x64_o0_32_S256x16,
    extractStridedSlice S256x16 ![0, 48] x slices_S256x64_o0_48_S256x16]

/-- A feature of a head among the 64. -/
theorem cut_at (x : FVec Ideal S256x64 .f32) (h : Fin 4) (r : Fin 256) (j : Fin 16) : cut x h (ix2 r j) = x (ix2 r (hd h j)) := by
  fin_cases h <;> (simp only [cut]; pointwise [])
  all_goals exact congrArg (fun d => x (ix2 r d)) (Fin.ext (by simp [hd]))

/-- The exponential entry. -/
theorem exp_at (v : FVec Ideal S256x256 .f32) (r c : Fin 256) : expV v (ix2 r c) = sexp (fun c => v (ix2 r c)) c := by
  pointwise [expV]
  rw [c_ninf]; rfl

/-- The softmax entry. -/
theorem soft_at (v : FVec Ideal S256x256 .f32) (r c : Fin 256) : softV v (ix2 r c) = smax (fun c => v (ix2 r c)) c := by
  pointwise [softV, exp_at]
  rfl

/-- The masked score. -/
theorem score_at (m : IVec S256x256 1) (q k : FVec Ideal S256x64 .f32) (h : Fin 4) (r c : Fin 256) :
    scoreV m (cut q h) (cut k h) (ix2 r c) = if m (ix2 r c) = 1#1 then score (fun d => q (ix2 r d)) (fun d => k (ix2 c d)) h else ⊥ := by
  have e : (Named.named κ "mask" 0xCE6E6B28#32 : Ideal .f32) = ⊥ := IdealRules.named_const.ideal_named_scalar _ _ _ _ rfl
  pointwise [scoreV, cut_at]
  rw [e]
  rfl

/-- One head at row `r`: attention over the row's own sequence. -/
theorem head_at (q k v : FVec Ideal S256x64 .f32) (hq : ∀ i, IsR (q i)) (hk : ∀ i, IsR (k i)) (h : Fin 4) (r : Fin 256) (j : Fin 16) :
    headV maskV (cut q h) (cut k h) (cut v h) (ix2 r j) =
      ∑ u : Fin 32, smax (fun u => score (fun d => q (ix2 r d)) (fun d => k (ix2 (cell u r) d)) h) u * v (ix2 (cell u r) (hd h j)) := by
  rw [← masked_softmax (fun c => score (fun d => q (ix2 r d)) (fun d => k (ix2 c d)) h) (fun c => v (ix2 c (hd h j))) r
    (fun c => IsR.score (fun d => hq _) (fun d => hk _) h)]
  have e (c : Fin 256) : scoreV maskV (cut q h) (cut k h) (ix2 r c) = if r.val % 8 = c.val % 8 then score (fun d => q (ix2 r d)) (fun d => k (ix2 c d)) h else ⊥ := by
    rw [score_at]; simp only [mask_at]
  generalize hs : scoreV maskV (cut q h) (cut k h) = s at *
  pointwise [headV, soft_at, cut_at]
  subst hs
  simp only [soft_at, cut_at, e]

/-- The printed text from the block's rows to the first norm. -/
def attPrinted (x : FVec Ideal S256x64 .f32) (q k v : FVec Ideal S256x64 .f32) (wo : Vec Ideal S64x64 .f32) (bo g c : Vec Ideal S1x64 .f32) : FVec Ideal S256x64 .f32 :=
  k0_pay18 x (k0_pay10 q k v (iota .tc S256x256 32 [1] iota_S256x256_d1_w32) (Scalar.select (Scalar.cmpi .eq 8#32 0#32) 1#32 8#32) k0_pay6 k0_pay7 k0_pay8)
    (k0_pay13 maskV (k0_pay11 v) (k0_pay12 q k) (Named.named κ "mask" 0xCE6E6B28#32)) (k0_pay14 q k v maskV) (k0_pay15 v)
    (k0_pay16 q k maskV) (k0_pay17 q k maskV) wo bo g c

/-- The printed text is the four heads side by side, the output layer, the residual and the first norm. -/
theorem attPrinted_eq (x : FVec Ideal S256x64 .f32) (q k v : FVec Ideal S256x64 .f32) (wo : Vec Ideal S64x64 .f32) (bo g c : Vec Ideal S1x64 .f32) :
    attPrinted x q k v wo bo g c = lnV (addf x (linV (concatenate S256x64 1 [⟨S256x16, headV maskV (cut q 0) (cut k 0) (cut v 0)⟩,
      ⟨S256x16, headV maskV (cut q 1) (cut k 1) (cut v 1)⟩, ⟨S256x16, headV maskV (cut q 2) (cut k 2) (cut v 2)⟩,
      ⟨S256x16, headV maskV (cut q 3) (cut k 3) (cut v 3)⟩] concatenates_S256x16_S256x16_S256x16_S256x16_S256x64_d1) wo bo)) g c := rfl

/-- The four heads side by side at row `r`. -/
theorem heads_at (q k v : FVec Ideal S256x64 .f32) (hq : ∀ i, IsR (q i)) (hk : ∀ i, IsR (k i)) (r : Fin 256) (d : Fin 64) :
    concatenate S256x64 1 [⟨S256x16, headV maskV (cut q 0) (cut k 0) (cut v 0)⟩,
      ⟨S256x16, headV maskV (cut q 1) (cut k 1) (cut v 1)⟩, ⟨S256x16, headV maskV (cut q 2) (cut k 2) (cut v 2)⟩,
      ⟨S256x16, headV maskV (cut q 3) (cut k 3) (cut v 3)⟩] concatenates_S256x16_S256x16_S256x16_S256x16_S256x64_d1 (ix2 r d) =
      ∑ u : Fin 32, smax (fun u => score (fun d => q (ix2 r d)) (fun d => k (ix2 (cell u r) d)) (head d)) u * v (ix2 (cell u r) d) := by
  pointwise []
  refine (ladder (fun h j => headV maskV (cut q h) (cut k h) (cut v h) (ix2 r j)) d).trans ?_
  rw [head_at q k v hq hk, hd_head_off]

end Cert.KernelIdeal.Blk
-- ==== Proof.Route.lean ====
/- The router of one block of the transformer call: the two greatest logits of each row, their places and their gates. -/
module

public import proofs.«01_k».proof.Proof.Top
public import proofs.«01_k».proof.Proof.Blk

@[expose] public section

set_option maxRecDepth 16384

noncomputable section

namespace Cert.KernelIdeal.Blk

open Cert.KernelIdeal.Gen Cert.Spec
open Idealize.ShloMosaic

/-- Place numbers as words are equal when the places are. -/
theorem word_inj (k e : Fin 16) : BitVec.ofNat 32 k.val = BitVec.ofNat 32 e.val ↔ k = e := by
  refine ⟨fun h => Fin.ext ?_, fun h => by rw [h]⟩
  have := congrArg BitVec.toNat h
  simp only [BitVec.toNat_ofNat] at this
  omega

/-- Row `r` of the logits. -/
def row (l : FVec Ideal S256x16 .f32) (b : Vec Ideal S1x16 .f32) (r : Fin 256) : Fin 16 → EReal := fun e => k0_pay21 l b (ix2 r e)

/-- The greatest logit of a row. -/
theorem pay22_at (l : FVec Ideal S256x16 .f32) (b : FVec Ideal S1x16 .f32) (r : Fin 256) : k0_pay22 l b (ix2 r 0) = fmax (row l b r) := by
  pointwise [k0_pay22]
  rw [c_ninf]
  rfl

/-- The place of the greatest logit. -/
theorem pay23_at (l : FVec Ideal S256x16 .f32) (b : FVec Ideal S1x16 .f32) (r : Fin 256) : k0_pay23 l b (ix2 r 0) = BitVec.ofNat 32 (top (row l b r)).val := by
  rw [← minsi_top]
  pointwise [k0_pay23, pay22_at]
  rfl

/-- The logits with the greatest taken out. -/
theorem pay24_at (l : FVec Ideal S256x16 .f32) (b : FVec Ideal S1x16 .f32) (r : Fin 256) (e : Fin 16) :
    k0_pay24 l b (ix2 r e) = drop (row l b r) (top (row l b r)) e := by
  pointwise [k0_pay24, pay23_at]
  rw [select_eq, c_ninf]
  simp only [word_inj]
  rfl

/-- The second greatest logit. -/
theorem pay25_at (l : FVec Ideal S256x16 .f32) (b : FVec Ideal S1x16 .f32) (r : Fin 256) :
    k0_pay25 l b (ix2 r 0) = fmax (drop (row l b r) (top (row l b r))) := by
  pointwise [k0_pay25, pay24_at]
  rw [c_ninf]
  rfl

/-- The place of the second greatest logit. -/
theorem pay26_at (l : FVec Ideal S256x16 .f32) (b : FVec Ideal S1x16 .f32) (r : Fin 256) :
    k0_pay26 l b (ix2 r 0) = BitVec.ofNat 32 (top (drop (row l b r) (top (row l b r)))).val := by
  rw [← minsi_top]
  pointwise [k0_pay26, pay24_at, pay25_at]

/-- The exponential of the second greatest logit against the greatest. -/
theorem pay27_at (l : FVec Ideal S256x16 .f32) (b : FVec Ideal S1x16 .f32) (r : Fin 256) : k0_pay27 l b (ix2 r 0) = gt (row l b r) := by
  pointwise [k0_pay27, pay22_at, pay25_at]
  rfl

/-- The first gate. -/
theorem pay28_at (l : FVec Ideal S256x16 .f32) (b : FVec Ideal S1x16 .f32) (r : Fin 256) : k0_pay28 l b (ix2 r 0) = Ideal.div 1 (1 + gt (row l b r)) := by
  pointwise [k0_pay28, pay27_at]

/-- The second gate. -/
theorem pay29_at (l : FVec Ideal S256x16 .f32) (b : FVec Ideal S1x16 .f32) (r : Fin 256) :
    k0_pay29 l b (ix2 r 0) = Ideal.div (gt (row l b r)) (1 + gt (row l b r)) := by
  pointwise [k0_pay29, pay27_at]

/-- The gate of expert `e`. -/
theorem gates_at (l : FVec Ideal S256x16 .f32) (b : FVec Ideal S1x16 .f32) (r : Fin 256) (e : Fin 16) :
    gateV (k0_pay23 l b) (k0_pay26 l b) (k0_pay28 l b) (k0_pay29 l b) (BitVec.ofNat 32 e.val) (ix2 r 0) = gate (row l b r) e := by
  simp only [gate_at, pay23_at, pay26_at, pay28_at, pay29_at, word_inj]
  rfl

end Cert.KernelIdeal.Blk
-- ==== Proof.Block.lean ====
/- One block of the transformer call: the distilled sequences of its eight columns. -/
module

public import proofs.«01_k».proof.Proof.Attn
public import proofs.«01_k».proof.Proof.Route

@[expose] public section

set_option maxRecDepth 16384

noncomputable section

namespace Cert.KernelIdeal.Blk

open Cert.KernelIdeal.Gen Cert.Spec
open Idealize.ShloMosaic

/-- The parameters as the block loads them. -/
structure Loads where
  /-- query weights -/
  wq : Vec Ideal S64x64 .f32
  /-- key weights -/
  wk : Vec Ideal S64x64 .f32
  /-- value weights -/
  wv : Vec Ideal S64x64 .f32
  /-- query bias -/
  bq : Vec Ideal S1x64 .f32
  /-- key bias -/
  bk : Vec Ideal S1x64 .f32
  /-- value bias -/
  bv : Vec Ideal S1x64 .f32
  /-- output weights -/
  wo : Vec Ideal S64x64 .f32
  /-- output bias -/
  bo : Vec Ideal S1x64 .f32
  /-- first norm's scale -/
  g1 : Vec Ideal S1x64 .f32
  /-- first norm's shift -/
  c1 : Vec Ideal S1x64 .f32
  /-- router weights -/
  wr : Vec Ideal S64x16 .f32
  /-- router bias -/
  br : Vec Ideal S1x16 .f32
  /-- experts' first weights -/
  a1 : Fin 16 → Vec Ideal S1x64x64 .f32
  /-- experts' first bias -/
  b1 : Fin 16 → Vec Ideal S1x64 .f32
  /-- experts' second weights -/
  a2 : Fin 16 → Vec Ideal S1x64x64 .f32
  /-- experts' second bias -/
  b2 : Fin 16 → Vec Ideal S1x64 .f32
  /-- second norm's scale -/
  g2 : Vec Ideal S1x64 .f32
  /-- second norm's shift -/
  c2 : Vec Ideal S1x64 .f32
  /-- distillation weights -/
  wd : Vec Ideal S64x64 .f32
  /-- distillation bias -/
  bd : Vec Ideal S1x64 .f32

/-- The same parameters by coordinates. -/
def Loads.par (l : Loads) : Par where
  Wq k d := l.wq (ix2 k d)
  Wk k d := l.wk (ix2 k d)
  Wv k d := l.wv (ix2 k d)
  bq d := l.bq (ix2 0 d)
  bk d := l.bk (ix2 0 d)
  bv d := l.bv (ix2 0 d)
  Wo k d := l.wo (ix2 k d)
  bo d := l.bo (ix2 0 d)
  g1 d := l.g1 (ix2 0 d)
  c1 d := l.c1 (ix2 0 d)
  Wr k e := l.wr (ix2 k e)
  br e := l.br (ix2 0 e)
  W1 e k d := l.a1 e (ix3 0 k d)
  b1 e d := l.b1 e (ix2 0 d)
  W2 e k d := l.a2 e (ix3 0 k d)
  b2 e d := l.b2 e (ix2 0 d)
  g2 d := l.g2 (ix2 0 d)
  c2 d := l.c2 (ix2 0 d)
  Wd k d := l.wd (ix2 k d)
  bd d := l.bd (ix2 0 d)

/-- The rows after the first norm. -/
def h1V (x : Vec Ideal S32x8x64 .f32) (l : Loads) : FVec Ideal S256x64 .f32 :=
  attPrinted (k0_pay2 x) (k0_pay3 x l.wq l.bq) (k0_pay4 x l.wk l.bk) (k0_pay5 x l.wv l.bv) l.wo l.bo l.g1 l.c1

/-- The logits without their bias. -/
def lgV (x : Vec Ideal S32x8x64 .f32) (l : Loads) : FVec Ideal S256x16 .f32 :=
  matmul (φ₁ := .f32) (φ₂ := .f32) dot_S256x64_S64x16_S256x16_1_0_0_1_n_n none (h1V x l) l.wr (constant S256x16 .f32 0x00000000#32)

/-- The block's stored value. -/
def blockV (x : Vec Ideal S32x8x64 .f32) (l : Loads) : FVec Ideal S16x8x64 .f32 :=
  k0_pay1 (printed (h1V x l) (k0_pay23 (lgV x l) (k0_pay20 l.br)) (k0_pay26 (lgV x l) (k0_pay20 l.br)) (k0_pay28 (lgV x l) (k0_pay20 l.br))
    (k0_pay29 (lgV x l) (k0_pay20 l.br)) l.a1 l.b1 l.a2 l.b2 (gateV (k0_pay23 (lgV x l) (k0_pay20 l.br)) (k0_pay26 (lgV x l) (k0_pay20 l.br)) (k0_pay28 (lgV x l) (k0_pay20 l.br))
    (k0_pay29 (lgV x l) (k0_pay20 l.br)) 0#32) l.g2 l.c2 l.wd l.bd) (Scalar.ofBits .f32 0x00000000#32)

/-- The block's sequence in column `s`. -/
def seq (x : Vec Ideal S32x8x64 .f32) (s : Fin 8) : Fin 32 → Fin 64 → EReal := fun t d => x (ix3 t s d)

/-- The row of position `t` of column `s`. -/
def at_ (t : Fin 32) (s : Fin 8) : Fin 256 := ⟨t.val * 8 + s.val, by omega⟩

/-- Position `u` of the sequence of the row at position `t` of column `s`. -/
theorem cell_at (u t : Fin 32) (s : Fin 8) : cell u (at_ t s) = at_ u s := by
  apply Fin.ext; simp only [cell, at_]; omega

/-- The block's rows. -/
theorem rows_at (x : Vec Ideal S32x8x64 .f32) (t : Fin 32) (s : Fin 8) (d : Fin 64) : k0_pay2 x (ix2 (at_ t s) d) = seq x s t d := by
  pointwise [k0_pay2]
  unfold seq
  congr 2 <;> (apply Fin.ext; simp only [at_]; omega)

/-- Every row is at some position of some column. -/
theorem row_split (r : Fin 256) : r = at_ ⟨r.val / 8, by omega⟩ ⟨r.val % 8, by omega⟩ := by
  apply Fin.ext; simp only [at_]; omega

/-- An affine layer of the block's rows. -/
theorem qkv_at (x : Vec Ideal S32x8x64 .f32) (w : Vec Ideal S64x64 .f32) (b : Vec Ideal S1x64 .f32) (t : Fin 32) (s : Fin 8) (d : Fin 64) :
    linV (k0_pay2 x) w b (ix2 (at_ t s) d) = lin (seq x s t) (fun k d => w (ix2 k d)) (fun d => b (ix2 0 d)) d := by
  rw [lin_at]; simp only [rows_at]

/-- An affine layer of real rows is real. -/
theorem qkv_isR (x : Vec Ideal S32x8x64 .f32) (w : Vec Ideal S64x64 .f32) (b : Vec Ideal S1x64 .f32) (hx : ∀ i, IsR (x i)) (hw : ∀ i, IsR (w i))
    (hb : ∀ i, IsR (b i)) (i : S256x64.Idx) : IsR (linV (k0_pay2 x) w b i) := by
  idx_vars i
  rw [row_split i0, qkv_at]
  exact IsR.lin (fun k => hx _) (fun k d => hw _) (fun d => hb _) i1

/-- The rows after the first norm. -/
theorem h1_at (x : Vec Ideal S32x8x64 .f32) (l : Loads) (hx : ∀ i, IsR (x i)) (hwq : ∀ i, IsR (l.wq i)) (hwk : ∀ i, IsR (l.wk i))
    (hbq : ∀ i, IsR (l.bq i)) (hbk : ∀ i, IsR (l.bk i)) (t : Fin 32) (s : Fin 8) (d : Fin 64) :
    h1V x l (ix2 (at_ t s) d) = h1 l.par (seq x s) t d := by
  have eq : k0_pay3 x l.wq l.bq = linV (k0_pay2 x) l.wq l.bq := rfl
  have ek : k0_pay4 x l.wk l.bk = linV (k0_pay2 x) l.wk l.bk := rfl
  have ev : k0_pay5 x l.wv l.bv = linV (k0_pay2 x) l.wv l.bv := rfl
  unfold h1V
  rw [eq, ek, ev, attPrinted_eq, ln_at]
  have hs (y z : FVec Ideal S256x64 .f32) (d : Fin 64) : addf y z (ix2 (at_ t s) d) = y (ix2 (at_ t s) d) + z (ix2 (at_ t s) d) := rfl
  simp only [hs, lin_at, heads_at _ _ _ (qkv_isR x _ _ hx hwq hbq) (qkv_isR x _ _ hx hwk hbk), rows_at, cell_at, qkv_at]
  rfl

/-- The logits. -/
theorem lg_at (x : Vec Ideal S32x8x64 .f32) (l : Loads) (r : Fin 256) :
    row (lgV x l) (k0_pay20 l.br) r = logits l.par (fun k => h1V x l (ix2 r k)) := by
  funext e
  unfold row
  pointwise [k0_pay21, k0_pay20, lgV]
  rfl

/-- The block's stored value. -/
theorem block_at (x : Vec Ideal S32x8x64 .f32) (l : Loads) (hx : ∀ i, IsR (x i)) (hwq : ∀ i, IsR (l.wq i)) (hwk : ∀ i, IsR (l.wk i))
    (hbq : ∀ i, IsR (l.bq i)) (hbk : ∀ i, IsR (l.bk i)) (t : Fin 16) (s : Fin 8) (d : Fin 64) :
    blockV x l (ix3 t s d) = distill l.par (seq x s) t d := by
  unfold blockV
  rw [printed_eq, pay1_at]
  unfold distill
  refine congrArg fmax (funext fun j => ?_)
  have hr : (⟨(2 * t.val + j.val) * 8 + s.val, by omega⟩ : Fin 256) = at_ ⟨2 * t.val + j.val, by omega⟩ s := rfl
  rw [hr]
  generalize (⟨2 * t.val + j.val, by omega⟩ : Fin 32) = u
  have hs (y z : FVec Ideal S256x64 .f32) (d : Fin 64) : addf y z (ix2 (at_ u s) d) = y (ix2 (at_ u s) d) + z (ix2 (at_ u s) d) := rfl
  simp only [lin_at, ln_at, hs, moe_at, gates_at, lg_at, h1_at x l hx hwq hwk hbq hbk]
  rfl

end Cert.KernelIdeal.Blk
-- ==== Proof.Gat.lean ====
/- What one block of the graph attention call computes: `Spec.gat` of its rows. -/
module

public import proofs.«01_k».proof.Proof.Consts
public import proofs.«01_k».proof.Proof.Gen.KernelIdeal.Frame

@[expose] public section

set_option maxRecDepth 16384

noncomputable section

namespace Cert.KernelIdeal.Gat

open Cert.KernelIdeal.Gen Cert.Spec
open Idealize.ShloMosaic

/-- The softmax of the rows of a square of scores. -/
def soft (v : FVec Ideal S512x512 .f32) : FVec Ideal S512x512 .f32 :=
  divf (exp (subf v (broadcastTo S512x512 (shapeCast S512x1 (multiReduction .maximumf [1] S512 v 0xFF800000#32 reduces_S512x512_S512 (.inl rfl) rfl) shapeCasts_S512_S512x1) broadcasts_S512x1_S512x512)))
    (broadcastTo S512x512 (shapeCast S512x1 (multiReduction .add [1] S512 (exp (subf v (broadcastTo S512x512 (shapeCast S512x1 (multiReduction .maximumf [1] S512 v 0xFF800000#32 reduces_S512x512_S512 (.inl rfl) rfl) shapeCasts_S512_S512x1) broadcasts_S512x1_S512x512))) 0x00000000#32 reduces_S512x512_S512 (.inl rfl) rfl) shapeCasts_S512_S512x1) broadcasts_S512x1_S512x512)

/-- The masked edge scores of one head. -/
def scores (neg : IVec S512x512 1) (s : FVec Ideal S512x16 .f32) (a b : Vec Ideal S1x16 .f32) : FVec Ideal S512x512 .f32 :=
  let e := addf (broadcastTo S512x512 (matmul (φ₁ := .f32) (φ₂ := .f32) dot_S512x16_S1x16_S512x1_1_1_0_0_n_n none s a (constant S512x1 .f32 0x00000000#32)) broadcasts_S512x1_S512x512)
    (broadcastTo S512x512 (matmul (φ₁ := .f32) (φ₂ := .f32) dot_S1x16_S512x16_S1x512_1_1_0_0_n_n none b s (constant S1x512 .f32 0x00000000#32)) broadcasts_S1x512_S512x512)
  select neg (subf (broadcast S512x512 (Scalar.ofBits .f32 0x00000000#32)) (broadcast S512x512 (Scalar.ofBits .f32 0x4E6E6B28#32)))
    (select (cmpf .oge e (broadcast S512x512 (Scalar.ofBits .f32 0x00000000#32))) e (mulf (broadcast S512x512 (Scalar.ofBits .f32 0x3E4CCCCD#32)) e))

/-- The second head as printed is the softmax of its scores times its rows. -/
theorem pay6_eq (neg : IVec S512x512 1) (s : FVec Ideal S512x16 .f32) (a b : Vec Ideal S1x16 .f32) :
    k1_pay6 neg s a b = matmul (φ₁ := .f32) (φ₂ := .f32) dot_S512x512_S512x16_S512x16_1_0_0_1_n_n none (soft (scores neg s a b)) s (constant S512x16 .f32 0x00000000#32) := rfl

/-- A softmax entry. -/
theorem soft_at (v : FVec Ideal S512x512 .f32) (i j : Fin 512) :
    soft v (ix2 i j) = smax (fun j => v (ix2 i j)) j := by
  pointwise [soft]
  rw [c_ninf]; rfl

/-- A score. -/
theorem scores_at (neg : IVec S512x512 1) (s : FVec Ideal S512x16 .f32) (a b : Vec Ideal S1x16 .f32) (i j : Fin 512) :
    scores neg s a b (ix2 i j) = if neg (ix2 i j) = 1#1 then Ideal.ofBits .f32 0xCE6E6B28#32 else leaky ((∑ k, s (ix2 i k) * a (ix2 0 k)) + ∑ k, s (ix2 j k) * b (ix2 0 k)) := by
  pointwise [scores]
  simp only [mul_comm (b _), c_neg_big]
  rfl

/-- One head as printed, at node `i` and place `k`. -/
theorem pay6_at (v : IVec S512x512 32) (neg : IVec S512x512 1) (s : FVec Ideal S512x16 .f32) (a b : Vec Ideal S1x16 .f32) (i : Fin 512) (k : Fin 16)
    (hn : ∀ i j, neg (ix2 i j) = 1#1 ↔ (v (ix2 i j)).toInt ≤ 0) :
    k1_pay6 neg s a b (ix2 i k) = gatHead (fun i k => s (ix2 i k)) (fun k => a (ix2 0 k)) (fun k => b (ix2 0 k)) (fun i j => v (ix2 i j)) i k := by
  rw [pay6_eq]
  generalize hq : scores neg s a b = q
  pointwise [soft_at]
  subst hq
  unfold gatHead edge
  simp only [soft_at, scores_at, hn]

/-- The rows through the weights. -/
theorem pay2_at (x : Vec Ideal S1x512x64 .f32) (w : Vec Ideal S64x64 .f32) (i : Fin 512) (d : Fin 64) :
    k1_pay2 x w (ix2 i d) = ∑ m, x (ix3 0 i m) * w (ix2 m d) := by
  pointwise [k1_pay2]

/-- The mask bit. -/
theorem pay3_at (x : Vec Ideal S1x512x512 .i32) (i j : Fin 512) :
    k1_pay3 (F := Ideal) x (ix2 i j) = 1#1 ↔ (x (ix3 0 i j) : BitVec 32).toInt ≤ 0 := by
  pointwise [k1_pay3]
  generalize (x (ix3 0 i j) : BitVec 32) = v
  simp only [IntOp.cmpi, BitVec.sle_eq_decide, BitVec.ofBool]
  by_cases h : BitVec.toInt v ≤ 0 <;> simp [h]

/-- The block's stored value, over its loads. -/
def body (x : Vec Ideal S1x512x64 .f32) (y : Vec Ideal S1x512x512 .i32) (w : Vec Ideal S64x64 .f32)
    (a b : Fin 4 → Vec Ideal S1x16 .f32) : FVec Ideal S1x512x64 .f32 :=
  k1_pay1 (k1_pay9 (k1_pay2 x w) (k1_pay3 y) (k1_pay4 x y w (a 0) (b 0)) (k1_pay6 (k1_pay3 y) (k1_pay5 x w) (a 1) (b 1))
    (k1_pay7 (k1_pay2 x w)) (k1_pay8 (k1_pay2 x w) (a 2) (b 2)) (a 3) (b 3))

/-- The rows of head `h`. -/
def rows (x : Vec Ideal S1x512x64 .f32) (w : Vec Ideal S64x64 .f32) : Fin 4 → FVec Ideal S512x16 .f32 :=
  ![extractStridedSlice S512x16 ![0, 0] (k1_pay2 x w) slices_S512x64_o0_0_S512x16,
    extractStridedSlice S512x16 ![0, 16] (k1_pay2 x w) slices_S512x64_o0_16_S512x16,
    extractStridedSlice S512x16 ![0, 32] (k1_pay2 x w) slices_S512x64_o0_32_S512x16,
    extractStridedSlice S512x16 ![0, 48] (k1_pay2 x w) slices_S512x64_o0_48_S512x16]

/-- A row of head `h` is the 16 features of that head. -/
theorem rows_at (x : Vec Ideal S1x512x64 .f32) (w : Vec Ideal S64x64 .f32) (h : Fin 4) (i : Fin 512) (k : Fin 16) :
    rows x w h (ix2 i k) = ∑ m, x (ix3 0 i m) * w (ix2 m (hd h k)) := by
  rw [← pay2_at]
  fin_cases h <;> (simp only [rows]; pointwise [])
  all_goals exact congrArg (fun d => k1_pay2 x w (ix2 i d)) (Fin.ext (by simp [hd]))

/-- The four heads side by side, as printed. -/
theorem body_eq (x : Vec Ideal S1x512x64 .f32) (y : Vec Ideal S1x512x512 .i32) (w : Vec Ideal S64x64 .f32)
    (a b : Fin 4 → Vec Ideal S1x16 .f32) :
    body x y w a b = k1_pay1 (concatenate S512x64 1 [⟨S512x16, k1_pay6 (k1_pay3 y) (rows x w 0) (a 0) (b 0)⟩,
      ⟨S512x16, k1_pay6 (k1_pay3 y) (rows x w 1) (a 1) (b 1)⟩, ⟨S512x16, k1_pay6 (k1_pay3 y) (rows x w 2) (a 2) (b 2)⟩,
      ⟨S512x16, k1_pay6 (k1_pay3 y) (rows x w 3) (a 3) (b 3)⟩] concatenates_S512x16_S512x16_S512x16_S512x16_S512x64_d1) := rfl

/-- The block's stored value is the graph attention of its rows. -/
theorem body_at (x : Vec Ideal S1x512x64 .f32) (y : Vec Ideal S1x512x512 .i32) (w : Vec Ideal S64x64 .f32)
    (a b : Fin 4 → Vec Ideal S1x16 .f32) (i : Fin 512) (d : Fin 64) :
    body x y w a b (ix3 0 i d) = gat (fun i k => x (ix3 0 i k)) (fun m k => w (ix2 m k)) (fun h k => a h (ix2 0 k))
      (fun h k => b h (ix2 0 k)) (fun i j => y (ix3 0 i j)) i d := by
  rw [body_eq]
  have hp (h : Fin 4) (k : Fin 16) : k1_pay6 (k1_pay3 y) (rows x w h) (a h) (b h) (ix2 i k) =
      gatHead (fun i k => ∑ m, x (ix3 0 i m) * w (ix2 m (hd h k))) (fun k => a h (ix2 0 k)) (fun k => b h (ix2 0 k)) (fun i j => y (ix3 0 i j)) i k := by
    rw [pay6_at (fun z => y (ix3 0 (z 0) (z 1))) _ _ _ _ _ _ (fun i j => pay3_at y i j)]
    simp only [rows_at]; rfl
  pointwise [k1_pay1]
  refine (congrArg (max · (0 : EReal)) (ladder (fun h k => k1_pay6 (k1_pay3 y) (rows x w h) (a h) (b h) (ix2 i k)) d)).trans ?_
  simp only [hp]
  rfl

end Cert.KernelIdeal.Gat
-- ==== Proof.Out.lean ====
/- What each call's body stores, from the contents of its blocks. -/
module

public import proofs.«01_k».proof.Proof.Block
public import proofs.«01_k».proof.Proof.Gat

@[expose] public section

set_option maxRecDepth 16384

noncomputable section

namespace Cert.KernelIdeal.Out

open Cert.KernelIdeal.Gen Cert.Spec Cert.KernelIdeal.Blk
open Idealize.ShloMosaic

/-- A load of the whole of a buffer of two axes reads it at the same place. -/
theorem ld_whole {a b : Nat} (x : Vec Ideal ⟨2, ![a, b]⟩ .f32) (h) (i : Fin a) (j : Fin b) :
    View.ld x (Rect.unit (s := ⟨2, ![a, b]⟩) ![0, 0] ![a, b] h) (ix2 i j) = x (ix2 i j) := by
  refine congrArg x (funext fun c => Fin.ext ?_)
  match c with
  | ⟨0, _⟩ => show 0 + 1 * i.val = i.val; omega
  | ⟨1, _⟩ => show 0 + 1 * j.val = j.val; omega

/-- A load of row `e` of a buffer of two axes. -/
theorem ld_row2 {a b : Nat} (x : Vec Ideal ⟨2, ![a, b]⟩ .f32) (e : Nat) (he : e < a) (h) (j : Fin b) :
    View.ld x (Rect.unit (s := ⟨2, ![a, b]⟩) ![e, 0] ![1, b] h) (ix2 0 j) = x (ix2 ⟨e, he⟩ j) := by
  refine congrArg x (funext fun c => Fin.ext ?_)
  match c with
  | ⟨0, _⟩ => show e + 1 * 0 = e; omega
  | ⟨1, _⟩ => show 0 + 1 * j.val = j.val; omega

/-- A load of matrix `e` of a buffer of three axes. -/
theorem ld_row3 {a b c : Nat} (x : Vec Ideal ⟨3, ![a, b, c]⟩ .f32) (e : Nat) (he : e < a) (h) (j : Fin b) (k : Fin c) :
    View.ld x (Rect.unit (s := ⟨3, ![a, b, c]⟩) ![e, 0, 0] ![1, b, c] h) (ix3 0 j k) = x (ix3 ⟨e, he⟩ j k) := by
  refine congrArg x (funext fun c => Fin.ext ?_)
  match c with
  | ⟨0, _⟩ => show e + 1 * 0 = e; omega
  | ⟨1, _⟩ => show 0 + 1 * j.val = j.val; omega
  | ⟨2, _⟩ => show 0 + 1 * k.val = k.val; omega

/-- A load of the whole of a buffer of three axes reads it at the same place. -/
theorem ld_whole3 {a b c : Nat} {φ} (x : Vec Ideal ⟨3, ![a, b, c]⟩ φ) (h) (i : Fin a) (j : Fin b) (k : Fin c) :
    View.ld x (Rect.unit (s := ⟨3, ![a, b, c]⟩) ![0, 0, 0] ![a, b, c] h) (ix3 i j k) = x (ix3 i j k) := by
  refine congrArg x (funext fun c => Fin.ext ?_)
  match c with
  | ⟨0, _⟩ => show 0 + 1 * i.val = i.val; omega
  | ⟨1, _⟩ => show 0 + 1 * j.val = j.val; omega
  | ⟨2, _⟩ => show 0 + 1 * k.val = k.val; omega

/-- The transformer call's parameters by coordinates, from the arrays of its twenty parameter windows. -/
def par (x1 : Vec Ideal S64x64 .f32) (x2 : Vec Ideal S64x64 .f32) (x3 : Vec Ideal S64x64 .f32) (x4 : Vec Ideal S1x64 .f32) (x5 : Vec Ideal S1x64 .f32) (x6 : Vec Ideal S1x64 .f32) (x7 : Vec Ideal S64x64 .f32) (x8 : Vec Ideal S1x64 .f32) (x9 : Vec Ideal S1x64 .f32) (x10 : Vec Ideal S1x64 .f32) (x11 : Vec Ideal S64x16 .f32) (x12 : Vec Ideal S1x16 .f32) (x13 : Vec Ideal S16x64x64 .f32) (x14 : Vec Ideal S16x64 .f32) (x15 : Vec Ideal S16x64x64 .f32) (x16 : Vec Ideal S16x64 .f32) (x17 : Vec Ideal S1x64 .f32) (x18 : Vec Ideal S1x64 .f32) (x19 : Vec Ideal S64x64 .f32) (x20 : Vec Ideal S1x64 .f32) : Par where
  Wq k d := x1 (ix2 k d)
  Wk k d := x2 (ix2 k d)
  Wv k d := x3 (ix2 k d)
  bq d := x4 (ix2 0 d)
  bk d := x5 (ix2 0 d)
  bv d := x6 (ix2 0 d)
  Wo k d := x7 (ix2 k d)
  bo d := x8 (ix2 0 d)
  g1 d := x9 (ix2 0 d)
  c1 d := x10 (ix2 0 d)
  Wr k e := x11 (ix2 k e)
  br e := x12 (ix2 0 e)
  W1 e k d := x13 (ix3 e k d)
  b1 e d := x14 (ix2 e d)
  W2 e k d := x15 (ix3 e k d)
  b2 e d := x16 (ix2 e d)
  g2 d := x17 (ix2 0 d)
  c2 d := x18 (ix2 0 d)
  Wd k d := x19 (ix2 k d)
  bd d := x20 (ix2 0 d)

/-- The loads of the transformer call's body. -/
def loads (x1 : Vec Ideal S64x64 .f32) (x2 : Vec Ideal S64x64 .f32) (x3 : Vec Ideal S64x64 .f32) (x4 : Vec Ideal S1x64 .f32) (x5 : Vec Ideal S1x64 .f32) (x6 : Vec Ideal S1x64 .f32) (x7 : Vec Ideal S64x64 .f32) (x8 : Vec Ideal S1x64 .f32) (x9 : Vec Ideal S1x64 .f32) (x10 : Vec Ideal S1x64 .f32) (x11 : Vec Ideal S64x16 .f32) (x12 : Vec Ideal S1x16 .f32) (x13 : Vec Ideal S16x64x64 .f32) (x14 : Vec Ideal S16x64 .f32) (x15 : Vec Ideal S16x64x64 .f32) (x16 : Vec Ideal S16x64 .f32) (x17 : Vec Ideal S1x64 .f32) (x18 : Vec Ideal S1x64 .f32) (x19 : Vec Ideal S64x64 .f32) (x20 : Vec Ideal S1x64 .f32) : Loads where
  wq := View.ld x1 r0_1
  wk := View.ld x2 r0_1
  wv := View.ld x3 r0_1
  bq := View.ld x4 r0_2
  bk := View.ld x5 r0_2
  bv := View.ld x6 r0_2
  wo := View.ld x7 r0_1
  bo := View.ld x8 r0_2
  g1 := View.ld x9 r0_2
  c1 := View.ld x10 r0_2
  wr := View.ld x11 r0_3
  br := View.ld x12 r0_4
  a1 := ![View.ld x13 r0_5, View.ld x13 r0_7, View.ld x13 r0_9, View.ld x13 r0_11, View.ld x13 r0_13, View.ld x13 r0_15, View.ld x13 r0_17, View.ld x13 r0_19, View.ld x13 r0_21, View.ld x13 r0_23, View.ld x13 r0_25, View.ld x13 r0_27, View.ld x13 r0_29, View.ld x13 r0_31, View.ld x13 r0_33, View.ld x13 r0_35]
  b1 := ![View.ld x14 r0_6, View.ld x14 r0_8, View.ld x14 r0_10, View.ld x14 r0_12, View.ld x14 r0_14, View.ld x14 r0_16, View.ld x14 r0_18, View.ld x14 r0_20, View.ld x14 r0_22, View.ld x14 r0_24, View.ld x14 r0_26, View.ld x14 r0_28, View.ld x14 r0_30, View.ld x14 r0_32, View.ld x14 r0_34, View.ld x14 r0_36]
  a2 := ![View.ld x15 r0_5, View.ld x15 r0_7, View.ld x15 r0_9, View.ld x15 r0_11, View.ld x15 r0_13, View.ld x15 r0_15, View.ld x15 r0_17, View.ld x15 r0_19, View.ld x15 r0_21, View.ld x15 r0_23, View.ld x15 r0_25, View.ld x15 r0_27, View.ld x15 r0_29, View.ld x15 r0_31, View.ld x15 r0_33, View.ld x15 r0_35]
  b2 := ![View.ld x16 r0_6, View.ld x16 r0_8, View.ld x16 r0_10, View.ld x16 r0_12, View.ld x16 r0_14, View.ld x16 r0_16, View.ld x16 r0_18, View.ld x16 r0_20, View.ld x16 r0_22, View.ld x16 r0_24, View.ld x16 r0_26, View.ld x16 r0_28, View.ld x16 r0_30, View.ld x16 r0_32, View.ld x16 r0_34, View.ld x16 r0_36]
  g2 := View.ld x17 r0_2
  c2 := View.ld x18 r0_2
  wd := View.ld x19 r0_1
  bd := View.ld x20 r0_2

/-- The parameters of the loads are the parameters of the windows. -/
theorem par_loads (x1 : Vec Ideal S64x64 .f32) (x2 : Vec Ideal S64x64 .f32) (x3 : Vec Ideal S64x64 .f32) (x4 : Vec Ideal S1x64 .f32) (x5 : Vec Ideal S1x64 .f32) (x6 : Vec Ideal S1x64 .f32) (x7 : Vec Ideal S64x64 .f32) (x8 : Vec Ideal S1x64 .f32) (x9 : Vec Ideal S1x64 .f32) (x10 : Vec Ideal S1x64 .f32) (x11 : Vec Ideal S64x16 .f32) (x12 : Vec Ideal S1x16 .f32) (x13 : Vec Ideal S16x64x64 .f32) (x14 : Vec Ideal S16x64 .f32) (x15 : Vec Ideal S16x64x64 .f32) (x16 : Vec Ideal S16x64 .f32) (x17 : Vec Ideal S1x64 .f32) (x18 : Vec Ideal S1x64 .f32) (x19 : Vec Ideal S64x64 .f32) (x20 : Vec Ideal S1x64 .f32) :
    (loads x1 x2 x3 x4 x5 x6 x7 x8 x9 x10 x11 x12 x13 x14 x15 x16 x17 x18 x19 x20).par = par x1 x2 x3 x4 x5 x6 x7 x8 x9 x10 x11 x12 x13 x14 x15 x16 x17 x18 x19 x20 := by
  unfold Loads.par loads par
  congr 1
  all_goals first
    | (funext i; exact ld_whole _ _ _ _)
    | (funext i j; exact ld_whole _ _ _ _)
    | (funext e d; fin_cases e <;> exact ld_row2 _ _ _ _ _)
    | (funext e k d; fin_cases e <;> exact ld_row3 _ _ _ _ _ _)

/-- The body's stores are one store of the block's value. -/
theorem out0_eq (x0 : Vec Ideal S32x8x64 .f32) (x1 : Vec Ideal S64x64 .f32) (x2 : Vec Ideal S64x64 .f32) (x3 : Vec Ideal S64x64 .f32) (x4 : Vec Ideal S1x64 .f32) (x5 : Vec Ideal S1x64 .f32) (x6 : Vec Ideal S1x64 .f32) (x7 : Vec Ideal S64x64 .f32) (x8 : Vec Ideal S1x64 .f32) (x9 : Vec Ideal S1x64 .f32) (x10 : Vec Ideal S1x64 .f32) (x11 : Vec Ideal S64x16 .f32) (x12 : Vec Ideal S1x16 .f32) (x13 : Vec Ideal S16x64x64 .f32) (x14 : Vec Ideal S16x64 .f32) (x15 : Vec Ideal S16x64x64 .f32) (x16 : Vec Ideal S16x64 .f32) (x17 : Vec Ideal S1x64 .f32) (x18 : Vec Ideal S1x64 .f32) (x19 : Vec Ideal S64x64 .f32) (x20 : Vec Ideal S1x64 .f32) :
    out0_21 x0 x1 x2 x3 x4 x5 x6 x7 x8 x9 x10 x11 x12 x13 x14 x15 x16 x17 x18 x19 x20 = View.canon [⟨r0_37, blockV (View.ld x0 r0_0) (loads x1 x2 x3 x4 x5 x6 x7 x8 x9 x10 x11 x12 x13 x14 x15 x16 x17 x18 x19 x20)⟩] := by
  rfl

/-- What the transformer call's body stores, at position `t`, column `s` and feature `d`. -/
theorem out0_at (x0 : Vec Ideal S32x8x64 .f32) (x1 : Vec Ideal S64x64 .f32) (x2 : Vec Ideal S64x64 .f32) (x3 : Vec Ideal S64x64 .f32) (x4 : Vec Ideal S1x64 .f32) (x5 : Vec Ideal S1x64 .f32) (x6 : Vec Ideal S1x64 .f32) (x7 : Vec Ideal S64x64 .f32) (x8 : Vec Ideal S1x64 .f32) (x9 : Vec Ideal S1x64 .f32) (x10 : Vec Ideal S1x64 .f32) (x11 : Vec Ideal S64x16 .f32) (x12 : Vec Ideal S1x16 .f32) (x13 : Vec Ideal S16x64x64 .f32) (x14 : Vec Ideal S16x64 .f32) (x15 : Vec Ideal S16x64x64 .f32) (x16 : Vec Ideal S16x64 .f32) (x17 : Vec Ideal S1x64 .f32) (x18 : Vec Ideal S1x64 .f32) (x19 : Vec Ideal S64x64 .f32) (x20 : Vec Ideal S1x64 .f32) (hx : ∀ i, IsR (x0 i)) (h1 : ∀ i, IsR (x1 i)) (h2 : ∀ i, IsR (x2 i))
    (h4 : ∀ i, IsR (x4 i)) (h5 : ∀ i, IsR (x5 i)) (t : Fin 16) (s : Fin 8) (d : Fin 64) :
    out0_21 x0 x1 x2 x3 x4 x5 x6 x7 x8 x9 x10 x11 x12 x13 x14 x15 x16 x17 x18 x19 x20 (ix3 t s d) =
      distill (par x1 x2 x3 x4 x5 x6 x7 x8 x9 x10 x11 x12 x13 x14 x15 x16 x17 x18 x19 x20) (fun t d => x0 (ix3 t s d)) t d := by
  have hz : (![0, 0, 0] : Fin 3 → Nat) = fun _ => 0 := funext fun a => by fin_cases a <;> rfl
  rw [out0_eq, View.canon_unit_zero hz]
  refine (block_at (View.ld x0 r0_0) (loads x1 x2 x3 x4 x5 x6 x7 x8 x9 x10 x11 x12 x13 x14 x15 x16 x17 x18 x19 x20) (fun i => hx _) (fun i => h1 _) (fun i => h2 _)
    (fun i => h4 _) (fun i => h5 _) t s d).trans ?_
  rw [par_loads]
  unfold seq
  congr 1
  funext t d
  exact ld_whole3 _ _ _ _ _

/-- What the graph call's body stores, at node `i` and feature `d`. -/
theorem out1_at (x0 : Vec Ideal S1x512x64 .f32) (x1 : Vec Ideal S1x512x512 .i32) (x2 : Vec Ideal S64x64 .f32) (x3 : Vec Ideal S4x16 .f32)
    (x4 : Vec Ideal S4x16 .f32) (i : Fin 512) (d : Fin 64) :
    out1_5 x0 x1 x2 x3 x4 (ix3 0 i d) = gat (fun i k => x0 (ix3 0 i k)) (fun m k => x2 (ix2 m k)) (fun h k => x3 (ix2 h k))
      (fun h k => x4 (ix2 h k)) (fun i j => x1 (ix3 0 i j)) i d := by
  have hz : (![0, 0, 0] : Fin 3 → Nat) = fun _ => 0 := funext fun a => by fin_cases a <;> rfl
  have e : out1_5 x0 x1 x2 x3 x4 = View.canon [⟨r1_0, Gat.body (View.ld x0 r1_0) (View.ld x1 r1_1) (View.ld x2 r1_2)
      ![View.ld x3 r1_3, View.ld x3 r1_4, View.ld x3 r1_5, View.ld x3 r1_6] ![View.ld x4 r1_3, View.ld x4 r1_4, View.ld x4 r1_5, View.ld x4 r1_6]⟩] := rfl
  rw [e, View.canon_unit_zero hz, Gat.body_at]
  have e3 (x : Vec Ideal S4x16 .f32) : (fun (h : Fin 4) (k : Fin 16) => (![View.ld x r1_3, View.ld x r1_4, View.ld x r1_5, View.ld x r1_6] :
      Fin 4 → Vec Ideal S1x16 .f32) h (ix2 0 k)) = fun h k => x (ix2 h k) := by
    funext h k; fin_cases h <;> exact ld_row2 _ _ _ _ _
  rw [e3, e3]
  have e0 : (fun i k => View.ld x0 r1_0 (ix3 0 i k)) = fun i k => x0 (ix3 0 i k) := by funext i k; exact ld_whole3 _ _ _ _ _
  have e1 : (fun i k => View.ld x1 r1_1 (ix3 0 i k)) = fun i k => x1 (ix3 0 i k) := by funext i k; exact ld_whole3 _ _ _ _ _
  have e2 : (fun i k => View.ld x2 r1_2 (ix2 i k)) = fun i k => x2 (ix2 i k) := by funext i k; exact ld_whole _ _ _ _
  rw [e0, e1, e2]

end Cert.KernelIdeal.Out
-- ==== Proof.Args.lean ====
/- The result of the whole layer, at coordinates, from its twenty-five arguments. -/
module

public import proofs.«01_k».proof.Proof.Spec

@[expose] public section

noncomputable section

namespace Cert.Spec

open Idealize.ShloMosaic

/-- The arguments, by coordinates. -/
structure Args where
  /-- the nodes' sequences -/
  x : Fin 2 → Fin 512 → Fin 32 → Fin 64 → EReal
  /-- the adjacency matrices -/
  adj : Fin 2 → Fin 512 → Fin 512 → BitVec 32
  /-- the transformer's parameters -/
  p : Par
  /-- the graph layer's weights -/
  wg : Fin 64 → Fin 64 → EReal
  /-- its source weights -/
  src : Fin 4 → Fin 16 → EReal
  /-- its target weights -/
  dst : Fin 4 → Fin 16 → EReal

/-- The arguments of the arrays that the programs take. -/
def Args.of (x0 : Vec Ideal ⟨4, ![2, 512, 32, 64]⟩ .f32) (x1 : Vec Ideal ⟨3, ![2, 512, 512]⟩ .i32)
    (x2 x3 x4 : Vec Ideal ⟨2, ![64, 64]⟩ .f32) (x5 x6 x7 : Vec Ideal ⟨1, ![64]⟩ .f32) (x8 : Vec Ideal ⟨2, ![64, 64]⟩ .f32)
    (x9 x10 x11 : Vec Ideal ⟨1, ![64]⟩ .f32) (x12 : Vec Ideal ⟨2, ![64, 16]⟩ .f32) (x13 : Vec Ideal ⟨1, ![16]⟩ .f32)
    (x14 : Vec Ideal ⟨3, ![16, 64, 64]⟩ .f32) (x15 : Vec Ideal ⟨2, ![16, 64]⟩ .f32) (x16 : Vec Ideal ⟨3, ![16, 64, 64]⟩ .f32)
    (x17 : Vec Ideal ⟨2, ![16, 64]⟩ .f32) (x18 x19 : Vec Ideal ⟨1, ![64]⟩ .f32) (x20 : Vec Ideal ⟨2, ![64, 64]⟩ .f32)
    (x21 : Vec Ideal ⟨1, ![64]⟩ .f32) (x22 : Vec Ideal ⟨2, ![64, 64]⟩ .f32) (x23 x24 : Vec Ideal ⟨2, ![4, 16]⟩ .f32) : Args where
  x b n t d := x0 (ix4 b n t d)
  adj s i j := x1 (ix3 s i j)
  p := { Wq := fun k d => x2 (ix2 k d), Wk := fun k d => x3 (ix2 k d), Wv := fun k d => x4 (ix2 k d),
         bq := fun d => x5 (ix1 d), bk := fun d => x6 (ix1 d), bv := fun d => x7 (ix1 d),
         Wo := fun k d => x8 (ix2 k d), bo := fun d => x9 (ix1 d), g1 := fun d => x10 (ix1 d), c1 := fun d => x11 (ix1 d),
         Wr := fun k e => x12 (ix2 k e), br := fun e => x13 (ix1 e),
         W1 := fun e k d => x14 (ix3 e k d), b1 := fun e d => x15 (ix2 e d), W2 := fun e k d => x16 (ix3 e k d), b2 := fun e d => x17 (ix2 e d),
         g2 := fun d => x18 (ix1 d), c2 := fun d => x19 (ix1 d), Wd := fun k d => x20 (ix2 k d), bd := fun d => x21 (ix1 d) }
  wg k d := x22 (ix2 k d)
  src h k := x23 (ix2 h k)
  dst h k := x24 (ix2 h k)

/-- The sequence of node `n` of batch `b` is sequence `b·512 + n`. -/
def Args.seq (A : Args) (r : Fin 1024) (t : Fin 32) (d : Fin 64) : EReal := A.x ⟨r.val / 512, by omega⟩ ⟨r.val % 512, by omega⟩ t d

/-- Which adjacency matrix position `t` takes. -/
def side (t : Fin 16) : Fin 2 := ⟨t.val % 2, by omega⟩

/-- Node `n` of batch `b` among the sequences. -/
def col (b : Fin 2) (n : Fin 512) : Fin 1024 := ⟨b.val * 512 + n.val, by omega⟩

/-- The result at batch `b`, node `n`, position `t` and feature `d`. -/
def Args.out (A : Args) (b : Fin 2) (n : Fin 512) (t : Fin 16) (d : Fin 64) : EReal :=
  gat (fun m k => distill A.p (A.seq (col b m)) t k) A.wg A.src A.dst (A.adj (side t)) n d

end Cert.Spec
-- ==== Proof.Arrays.lean ====
/- The arrays that the two calls leave, as functions of the arrays that they find. -/
module

public import proofs.«01_k».proof.Proof.Out
public import proofs.«01_k».proof.Proof.Args
public import Idealize.ShloMosaic.Lib.Pipeline.ValueKit

@[expose] public section

set_option maxRecDepth 16384

noncomputable section

namespace Cert.KernelIdeal.Arrays

open Cert.KernelIdeal.Gen Cert.Spec Cert.KernelIdeal.Out
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The parameter windows of the transformer call have one block each. -/
theorem idxP : ∀ t : Fin cfg0.N, win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0, 0] ∧ win0_14.index t = ![0, 0] ∧ win0_15.index t = ![0, 0, 0] ∧ win0_16.index t = ![0, 0] ∧ win0_17.index t = ![0, 0] ∧ win0_18.index t = ![0, 0] ∧ win0_19.index t = ![0, 0] ∧ win0_20.index t = ![0, 0] :=
  (by decide +kernel : ∀ t : Fin grid0.N, _)

/-- The sequences' window takes eight columns at each point. -/
theorem idx0 : ∀ t : Fin cfg0.N, win0_0.index t = ![0, t.val, 0] := (by decide +kernel : ∀ t : Fin grid0.N, win0_0.index t = ![0, t.val, 0])

/-- So does the result's. -/
theorem idx21 : ∀ t : Fin cfg0.N, win0_21.index t = ![0, t.val, 0] := (by decide +kernel : ∀ t : Fin grid0.N, win0_21.index t = ![0, t.val, 0])

/-- The transformer call's parameters, from the arrays that it finds. -/
def par0 (c : Dev nD) : Par := par (V c main_arg2) (V c main_arg3) (V c main_arg4) (V c main_call0_v2) (V c main_call0_v3) (V c main_call0_v4) (V c main_arg8) (V c main_call0_v5) (V c main_call0_v6) (V c main_call0_v7) (V c main_arg12) (V c main_call0_v8) (V c main_arg14) (V c main_arg15) (V c main_arg16) (V c main_arg17) (V c main_call0_v9) (V c main_call0_v10) (V c main_arg20) (V c main_call0_v11)

/-- Equal arrays give equal parameters. -/
theorem par_congr {x1 y1 x2 y2 x3 y3 x4 y4 x5 y5 x6 y6 x7 y7 x8 y8 x9 y9 x10 y10 x11 y11 x12 y12 x13 y13 x14 y14 x15 y15 x16 y16 x17 y17 x18 y18 x19 y19 x20 y20} (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) :
    par x1 x2 x3 x4 x5 x6 x7 x8 x9 x10 x11 x12 x13 x14 x15 x16 x17 x18 x19 x20 = par y1 y2 y3 y4 y5 y6 y7 y8 y9 y10 y11 y12 y13 y14 y15 y16 y17 y18 y19 y20 := by
  subst h1 h2 h3 h4 h5 h6 h7 h8 h9 h10 h11 h12 h13 h14 h15 h16 h17 h18 h19 h20; rfl

set_option maxHeartbeats 4000000 in
/-- At every point the parameter windows hold their arrays. -/
theorem par_blk (c : Dev nD) (t : Fin cfg0.N) : par (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) = par0 V c := by
  obtain ⟨e1, e2, e3, e4, e5, e6, e7, e8, e9, e10, e11, e12, e13, e14, e15, e16, e17, e18, e19, e20⟩ := idxP t
  refine par_congr ?_ ?_ ?_ ?_ ?_ ?_ ?_ ?_ ?_ ?_ ?_ ?_ ?_ ?_ ?_ ?_ ?_ ?_ ?_ ?_ <;> (funext j; blk_simp [iblk0]; exact congrArg _ (by blk_ext [e1, e2, e3, e4, e5, e6, e7, e8, e9, e10, e11, e12, e13, e14, e15, e16, e17, e18, e19, e20]))

set_option maxHeartbeats 4000000 in
/-- The array that the transformer call leaves. -/
theorem final0 (c : Dev nD) (hx : ∀ i, IsR (V c main_call0_v1 i)) (h1 : ∀ i, IsR (V c main_arg2 i)) (h2 : ∀ i, IsR (V c main_arg3 i))
    (h4 : ∀ i, IsR (V c main_call0_v2 i)) (h5 : ∀ i, IsR (V c main_call0_v3 i)) : (dat0 V c).arrAt 21 cfg0.N =
      fun i : S16x1024x64.Idx => distill (par0 V c) (fun t d => V c main_call0_v1 (ix3 t (i 1) d)) (i 0) (i 2) := by
  refine (dat0 V c).arrAt_eq_of_covers 21 _ (by decide +kernel) fun t hf y => ?_
  blk_simp
  rw [after0_21]
  obtain ⟨a, b, e, rfl⟩ : ∃ (a : Fin 16) (b : Fin 8) (e : Fin 64), y = ix3 a b e := ⟨y 0, y 1, y 2, funext fun a => by fin_cases a <;> rfl⟩
  have ht : t.val < 128 := t.isLt
  have hy : (win0_21.blk t).view.emb (ix3 a b e) = (ix3 a ⟨t.val * 8 + b.val, by omega⟩ e : S16x1024x64.Idx) := by
    blk_ext [idx21]
  rw [hy]
  refine (out0_at _ (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (fun i => hx _) (fun i => h1 _) (fun i => h2 _) (fun i => h4 _) (fun i => h5 _) a b e).trans ?_
  rw [par_blk]
  refine congrArg (fun X => distill (par0 V c) X a e) (funext fun u => funext fun d => ?_)
  blk_simp [iblk0]
  exact congrArg (V c main_call0_v1) (by blk_ext [idx0])

/-- The graph call's windows: the positions' features, the adjacency matrix and the result go by the point. -/
theorem idx1 : ∀ t : Fin cfg1.N, win1_0.index t = ![t.val % 16, t.val / 16, 0] ∧ win1_1.index t = ![t.val % 2, 0, 0] ∧
    win1_2.index t = ![0, 0] ∧ win1_3.index t = ![0, 0] ∧ win1_4.index t = ![0, 0] ∧ win1_5.index t = ![t.val % 16, t.val / 16, 0] :=
  (by decide +kernel : ∀ t : Fin grid1.N, _)

/-- The graph layer at position `a`, column `n` and feature `d`. -/
def G1 (c : Dev nD) (a : Fin 16) (n : Fin 1024) (d : Fin 64) : EReal :=
  gat (fun m k => V c main_call0_v12 (ix3 a (col ⟨n.val / 512, by omega⟩ m) k))
    (fun k d => V c main_arg22 (ix2 k d)) (fun h k => V c main_arg23 (ix2 h k)) (fun h k => V c main_arg24 (ix2 h k))
    (fun n j => V c main_arg1 (ix3 (side a) n j)) ⟨n.val % 512, by omega⟩ d

set_option maxHeartbeats 4000000 in
/-- The array that the graph call leaves. -/
theorem final1 (c : Dev nD) : (dat1 V c).arrAt 5 cfg1.N = fun i : S16x1024x64.Idx => G1 V c (i 0) (i 1) (i 2) := by
  refine (dat1 V c).arrAt_eq_of_covers 5 _ (by decide +kernel) fun t hf y => ?_
  blk_simp
  rw [after1_5]
  obtain ⟨i0, i1, i2, i3, i4, i5⟩ := idx1 t
  obtain ⟨a, b, e, rfl⟩ : ∃ (a : Fin 1) (b : Fin 512) (e : Fin 64), y = ix3 a b e := ⟨y 0, y 1, y 2, funext fun a => by fin_cases a <;> rfl⟩
  obtain rfl : a = 0 := Subsingleton.elim _ _
  have ht : t.val < 32 := t.isLt
  have hy : (win1_5.blk t).view.emb (ix3 0 b e) = (ix3 ⟨t.val % 16, by omega⟩ ⟨t.val / 16 * 512 + b.val, by omega⟩ e : S16x1024x64.Idx) := by
    blk_ext [i5]
  rw [hy]
  refine (out1_at _ _ _ _ _ b e).trans ?_
  have hb : (⟨(t.val / 16 * 512 + b.val) % 512, by omega⟩ : Fin 512) = b := Fin.ext (by show (t.val / 16 * 512 + b.val) % 512 = b.val; omega)
  have hc : (⟨(t.val / 16 * 512 + b.val) / 512, by omega⟩ : Fin 2) = ⟨t.val / 16, by omega⟩ :=
    Fin.ext (by show (t.val / 16 * 512 + b.val) / 512 = t.val / 16; omega)
  show _ = G1 V c ⟨t.val % 16, by omega⟩ ⟨t.val / 16 * 512 + b.val, by omega⟩ e
  unfold G1
  rw [hb, hc]
  congr 1
  · funext n k
    blk_simp [iblk1]
    exact congrArg (V c main_call0_v12) (by blk_ext [i0, col])
  · funext n k
    blk_simp [iblk1]
    exact congrArg (V c main_arg22) (by blk_ext [i2])
  · funext n k
    blk_simp [iblk1]
    exact congrArg (V c main_arg23) (by blk_ext [i3])
  · funext n k
    blk_simp [iblk1]
    exact congrArg (V c main_arg24) (by blk_ext [i4])
  · funext n k
    blk_simp [iblk1]
    exact congrArg (V c main_arg1) (by blk_ext [i1, side])

end Cert.KernelIdeal.Arrays
-- ==== Proof.Host.lean ====
/- The kernel program's result array, at coordinates, as the layer's result at its arguments. -/
module

public import proofs.«01_k».proof.Proof.Arrays
public import Idealize.ShloMosaic.Lib.StableHlo.ReadAt

@[expose] public section

set_option maxRecDepth 16384

noncomputable section

namespace Cert.KernelIdeal.Host

open Cert.KernelIdeal.Gen Cert.Spec Cert.KernelIdeal.Arrays
open Idealize.ShloMosaic Idealize.ShloMosaic.TcCoe Idealize.SL.Sem

variable (m : (ℓ : Loc nD τ sig) → Buf (Elt Ideal) ℓ) (ρ : Dev nD → PrngReg)

/-- The arguments in the launch memory. -/
def args (c : Dev nD) : Args := Args.of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))

/-- The sequences as the transformer call finds them: transposed. -/
theorem x_at (c : Dev nD) (t : Fin 32) (n : Fin 1024) (d : Fin 64) : V1 m ρ c main_call0_v1 (ix3 t n d) = (args m c).seq n t d := by
  show _ = m ((c : Thread nD τ).loc main_arg0) (ix4 ⟨n.val / 512, by omega⟩ ⟨n.val % 512, by omega⟩ t d)
  unfold V1 W1
  after_reads_at

/-- The rows of 64 as the transformer call finds them. -/
theorem bias_at (c : Dev nD) (d : Fin 64) : V1 m ρ c main_call0_v2 (ix2 0 d) = m ((c : Thread nD τ).loc main_arg5) (ix1 d) ∧
    V1 m ρ c main_call0_v3 (ix2 0 d) = m ((c : Thread nD τ).loc main_arg6) (ix1 d) ∧
    V1 m ρ c main_call0_v4 (ix2 0 d) = m ((c : Thread nD τ).loc main_arg7) (ix1 d) ∧
    V1 m ρ c main_call0_v5 (ix2 0 d) = m ((c : Thread nD τ).loc main_arg9) (ix1 d) ∧
    V1 m ρ c main_call0_v6 (ix2 0 d) = m ((c : Thread nD τ).loc main_arg10) (ix1 d) ∧
    V1 m ρ c main_call0_v7 (ix2 0 d) = m ((c : Thread nD τ).loc main_arg11) (ix1 d) ∧
    V1 m ρ c main_call0_v9 (ix2 0 d) = m ((c : Thread nD τ).loc main_arg18) (ix1 d) ∧
    V1 m ρ c main_call0_v10 (ix2 0 d) = m ((c : Thread nD τ).loc main_arg19) (ix1 d) ∧
    V1 m ρ c main_call0_v11 (ix2 0 d) = m ((c : Thread nD τ).loc main_arg21) (ix1 d) := by
  unfold V1 W1
  refine ⟨?_, ?_, ?_, ?_, ?_, ?_, ?_, ?_, ?_⟩ <;> after_reads_at

/-- The router's bias as the transformer call finds it. -/
theorem router_at (c : Dev nD) (d : Fin 16) : V1 m ρ c main_call0_v8 (ix2 0 d) = m ((c : Thread nD τ).loc main_arg13) (ix1 d) := by
  unfold V1 W1
  after_reads_at

/-- The result array reads the graph call's array, transposed. -/
theorem out_at (c : Dev nD) (b : Fin 2) (n : Fin 512) (t : Fin 16) (d : Fin 64) : W4 m ρ c (Proc.devRef .tc main_v0) (ix4 b n t d) =
    W3 m ρ c (Proc.devRef .tc main_call0_v13) (ix3 t (col b n) d) := by
  unfold W4
  after_reads_at
  rfl

/-- An argument is as launched when the transformer call starts. -/
theorem arg1 (c : Dev nD) (a : Ref sig .tc) (h : a ∈ argRefs) : V1 m ρ c a = m ((c : Thread nD τ).loc a) := W1_args m ρ c a h

/-- An argument is as launched when the graph call starts. -/
theorem arg2 (c : Dev nD) (a : Ref sig .tc) (h : a ∈ argRefs) : V2 m ρ c a = m ((c : Thread nD τ).loc a) := W2_args m ρ c a h

set_option maxHeartbeats 4000000 in
/-- The transformer call's parameters are the arguments'. -/
theorem par_eq (c : Dev nD) : par0 (V1 m ρ) c = (args m c).p := by
  have hb := bias_at m ρ c
  have hr := router_at m ρ c
  unfold par0 Out.par args Args.of
  congr 1
  all_goals
    funext d
    first
      | exact hr d
      | (obtain ⟨h5, h6, h7, h9, h10, h11, h18, h19, h21⟩ := hb d; assumption)

/-- The transformer call leaves the distilled sequences. -/
theorem mid_at (c : Dev nD) (hx : ∀ i, IsR (m ((c : Thread nD τ).loc main_arg0) i)) (h2 : ∀ i, IsR (m ((c : Thread nD τ).loc main_arg2) i))
    (h3 : ∀ i, IsR (m ((c : Thread nD τ).loc main_arg3) i)) (h5 : ∀ i, IsR (m ((c : Thread nD τ).loc main_arg5) i))
    (h6 : ∀ i, IsR (m ((c : Thread nD τ).loc main_arg6) i)) (t : Fin 16) (n : Fin 1024) (d : Fin 64) :
    V2 m ρ c main_call0_v12 (ix3 t n d) = distill (args m c).p ((args m c).seq n) t d := by
  have e : V2 m ρ c main_call0_v12 = (dat0 (V1 m ρ) c).arrAt 21 cfg0.N := W2_arr m ρ c 21
  rw [e, final0 (V1 m ρ) c ?_ ?_ ?_ ?_ ?_]
  · show distill (par0 (V1 m ρ) c) (fun t d => V1 m ρ c main_call0_v1 (ix3 t n d)) t d = _
    rw [par_eq]
    exact congrArg (fun X => distill (args m c).p X t d) (funext fun t => funext fun d => x_at m ρ c t n d)
  · intro i
    obtain ⟨t, n, d, rfl⟩ : ∃ (t : Fin 32) (n : Fin 1024) (d : Fin 64), i = ix3 t n d := ⟨i 0, i 1, i 2, funext fun a => by fin_cases a <;> rfl⟩
    rw [x_at]
    exact hx _
  · rw [arg1 m ρ c main_arg2 (by decide)]; exact h2
  · rw [arg1 m ρ c main_arg3 (by decide)]; exact h3
  · intro i
    obtain ⟨a, d, rfl⟩ : ∃ (a : Fin 1) (d : Fin 64), i = ix2 a d := ⟨i 0, i 1, funext fun a => by fin_cases a <;> rfl⟩
    obtain rfl : a = 0 := Subsingleton.elim _ _
    rw [(bias_at m ρ c d).1]
    exact h5 _
  · intro i
    obtain ⟨a, d, rfl⟩ : ∃ (a : Fin 1) (d : Fin 64), i = ix2 a d := ⟨i 0, i 1, funext fun a => by fin_cases a <;> rfl⟩
    obtain rfl : a = 0 := Subsingleton.elim _ _
    rw [(bias_at m ρ c d).2.1]
    exact h6 _

/-- The kernel program's result. -/
theorem result_at (c : Dev nD) (hx : ∀ i, IsR (m ((c : Thread nD τ).loc main_arg0) i)) (h2 : ∀ i, IsR (m ((c : Thread nD τ).loc main_arg2) i))
    (h3 : ∀ i, IsR (m ((c : Thread nD τ).loc main_arg3) i)) (h5 : ∀ i, IsR (m ((c : Thread nD τ).loc main_arg5) i))
    (h6 : ∀ i, IsR (m ((c : Thread nD τ).loc main_arg6) i)) (b : Fin 2) (n : Fin 512) (t : Fin 16) (d : Fin 64) :
    W4 m ρ c (Proc.devRef .tc main_v0) (ix4 b n t d) = (args m c).out b n t d := by
  have e : W3 m ρ c (Proc.devRef .tc main_call0_v13) = (dat1 (V2 m ρ) c).arrAt 5 cfg1.N := W3_arr m ρ c 5
  rw [out_at, e, final1]
  show G1 (V2 m ρ) c t (col b n) d = _
  have hb : (⟨(col b n).val / 512, by omega⟩ : Fin 2) = b := Fin.ext (by show (b.val * 512 + n.val) / 512 = b.val; omega)
  have hn : (⟨(col b n).val % 512, by omega⟩ : Fin 512) = n := Fin.ext (by show (b.val * 512 + n.val) % 512 = n.val; omega)
  unfold G1
  rw [hb, hn, arg2 m ρ c main_arg22 (by decide), arg2 m ρ c main_arg23 (by decide), arg2 m ρ c main_arg24 (by decide), arg2 m ρ c main_arg1 (by decide)]
  simp only [mid_at m ρ c hx h2 h3 h5 h6]
  rfl

end Cert.KernelIdeal.Host
-- ==== Proof.HMax.lean ====
/- A host maximum over one axis, at an index, for arrays of any extents. -/
module

public import proofs.«01_k».proof.Proof.Consts
public import Idealize.ShloMosaic.Lib.Pointwise

@[expose] public section

set_option maxRecDepth 16384

noncomputable section

namespace Cert.Spec

open Idealize.ShloMosaic

/-- A fold of maxima from minus infinity. -/
theorem fold_bot {n : Nat} {b : EReal} (hb : b = ⊥) (f : Fin n → EReal) : Finset.univ.fold max b f = fmax f := by
  subst hb; rfl

/-- A maximum with minus infinity. -/
theorem max_bot {a b : EReal} (ha : a = ⊥) : max a b = b := by
  subst ha; exact max_eq_right bot_le

/-- Over the last of four axes. -/
theorem hmax_last {a b c n : Nat} {u : Shape} (x : Vec Ideal ⟨4, ![a, b, c, n]⟩ .f32) (v : FVec Ideal u .f32)
    (h : Shape.ReducesTo ⟨4, ![a, b, c, n]⟩ [3] ⟨3, ![a, b, c]⟩) (hu : 0 < u.numel) (hv : v (Shape.Idx.first hu) = ⊥) (i : Fin a) (j : Fin b) (k : Fin c) :
    Host.reduce (FloatOps.maximumf (F := Ideal) (φ := .f32)) x v h hu (ix3 i j k) =
      fmax fun l : Fin n => x (ix4 i j k l) := by
  refine Eq.trans ?_ (fold_bot hv _)
  pointwise

/-- Over the third of four axes. -/
theorem hmax_third {a b c n : Nat} {u : Shape} (x : Vec Ideal ⟨4, ![a, b, n, c]⟩ .f32) (v : FVec Ideal u .f32)
    (h : Shape.ReducesTo ⟨4, ![a, b, n, c]⟩ [2] ⟨3, ![a, b, c]⟩) (hu : 0 < u.numel) (hv : v (Shape.Idx.first hu) = ⊥) (i : Fin a) (j : Fin b) (k : Fin c) :
    Host.reduce (FloatOps.maximumf (F := Ideal) (φ := .f32)) x v h hu (ix3 i j k) =
      fmax fun l : Fin n => x (ix4 i j l k) := by
  refine Eq.trans ?_ (fold_bot hv _)
  pointwise

/-- Over the second of two axes. -/
theorem hmax_second {a n : Nat} {u : Shape} (x : Vec Ideal ⟨2, ![a, n]⟩ .f32) (v : FVec Ideal u .f32)
    (h : Shape.ReducesTo ⟨2, ![a, n]⟩ [1] ⟨1, ![a]⟩) (hu : 0 < u.numel) (hv : v (Shape.Idx.first hu) = ⊥) (i : Fin a) :
    Host.reduce (FloatOps.maximumf (F := Ideal) (φ := .f32)) x v h hu (ix1 i) =
      fmax fun l : Fin n => x (ix2 i l) := by
  refine Eq.trans ?_ (fold_bot hv _)
  pointwise

end Cert.Spec
-- ==== Proof.RefA.lean ====
/- The reference's attention and first norm, at coordinates. -/
module

public import proofs.«01_k».proof.Proof.HMax
public import proofs.«01_k».proof.Proof.Args
public import proofs.«01_k».proof.Proof.Gen.ReferenceIdeal.Read

@[expose] public section

set_option maxRecDepth 16384

noncomputable section

namespace Cert.ReferenceIdeal.Ref

open Cert.ReferenceIdeal.Gen Cert.ReferenceIdeal.Read Cert.Spec
open Idealize.ShloMosaic

/-- The reference's argument arrays. -/
structure Arrs where
  /-- argument 0 -/
  x0 : Vec Ideal S2x512x32x64 .f32
  /-- argument 1 -/
  x1 : Vec Ideal S2x512x512 .i32
  /-- argument 2 -/
  x2 : Vec Ideal S64x64 .f32
  /-- argument 3 -/
  x3 : Vec Ideal S64x64 .f32
  /-- argument 4 -/
  x4 : Vec Ideal S64x64 .f32
  /-- argument 5 -/
  x5 : Vec Ideal S64 .f32
  /-- argument 6 -/
  x6 : Vec Ideal S64 .f32
  /-- argument 7 -/
  x7 : Vec Ideal S64 .f32
  /-- argument 8 -/
  x8 : Vec Ideal S64x64 .f32
  /-- argument 9 -/
  x9 : Vec Ideal S64 .f32
  /-- argument 10 -/
  x10 : Vec Ideal S64 .f32
  /-- argument 11 -/
  x11 : Vec Ideal S64 .f32
  /-- argument 12 -/
  x12 : Vec Ideal S64x16 .f32
  /-- argument 13 -/
  x13 : Vec Ideal S16 .f32
  /-- argument 14 -/
  x14 : Vec Ideal S16x64x64 .f32
  /-- argument 15 -/
  x15 : Vec Ideal S16x64 .f32
  /-- argument 16 -/
  x16 : Vec Ideal S16x64x64 .f32
  /-- argument 17 -/
  x17 : Vec Ideal S16x64 .f32
  /-- argument 18 -/
  x18 : Vec Ideal S64 .f32
  /-- argument 19 -/
  x19 : Vec Ideal S64 .f32
  /-- argument 20 -/
  x20 : Vec Ideal S64x64 .f32
  /-- argument 21 -/
  x21 : Vec Ideal S64 .f32
  /-- argument 22 -/
  x22 : Vec Ideal S64x64 .f32
  /-- argument 23 -/
  x23 : Vec Ideal S4x16 .f32
  /-- argument 24 -/
  x24 : Vec Ideal S4x16 .f32

/-- The arguments by coordinates. -/
def Arrs.args (X : Arrs) : Args := Args.of X.x0 X.x1 X.x2 X.x3 X.x4 X.x5 X.x6 X.x7 X.x8 X.x9 X.x10 X.x11 X.x12 X.x13 X.x14 X.x15 X.x16 X.x17
  X.x18 X.x19 X.x20 X.x21 X.x22 X.x23 X.x24

variable (X : Arrs)

/-- The queries. -/
theorem q_at (r : Fin 1024) (t : Fin 32) (d : Fin 64) : val_main_v4 (F := Ideal) X.x0 X.x2 X.x5 (ix3 r t d) = lin (X.args.seq r t) X.args.p.Wq X.args.p.bq d := by
  pointwise [val_main_v0, val_main_v1, val_main_v2, val_main_v3, val_main_v4]
  rfl

/-- The keys. -/
theorem k_at (r : Fin 1024) (t : Fin 32) (d : Fin 64) : val_main_v10 (F := Ideal) X.x0 X.x3 X.x6 (ix3 r t d) = lin (X.args.seq r t) X.args.p.Wk X.args.p.bk d := by
  pointwise [val_main_v0, val_main_v7, val_main_v8, val_main_v9, val_main_v10]
  rfl

/-- The values. -/
theorem v_at (r : Fin 1024) (t : Fin 32) (d : Fin 64) : val_main_v16 (F := Ideal) X.x0 X.x4 X.x7 (ix3 r t d) = lin (X.args.seq r t) X.args.p.Wv X.args.p.bv d := by
  pointwise [val_main_v0, val_main_v13, val_main_v14, val_main_v15, val_main_v16]
  rfl

/-- Division by the root of sixteen is multiplication by one quarter. -/
theorem div_four (s : EReal) : Ideal.div s (Ideal.sqrt (Ideal.ofBits .f32 0x41800000#32)) = s * quarter := by
  have h : Real.sqrt 16 = 4 := by rw [show (16 : ℝ) = 4 ^ 2 by norm_num]; exact Real.sqrt_sq (by norm_num)
  rw [c_sixteen, Ideal.sqrt_coe, if_neg (by norm_num), h, Ideal.div_coe (by norm_num), quarter, c_quarter]

/-- The scores. -/
theorem score_at (r : Fin 1024) (h : Fin 4) (t u : Fin 32) : val_main_v23 (F := Ideal) X.x0 X.x2 X.x3 X.x5 X.x6 (ix4 r h t u) =
    score (lin (X.args.seq r t) X.args.p.Wq X.args.p.bq) (lin (X.args.seq r u) X.args.p.Wk X.args.p.bk) h := by
  pointwise [val_main_v5, val_main_v6, val_main_v11, val_main_v12, val_main_v19, val_main_v20, val_main_v21, val_main_v22, val_main_v23, val_main_cst, q_at, k_at]
  have e (x : Fin 16) : (⟨h.val * 16 + x.val, by omega⟩ : Fin 64) = hd h x := Fin.ext (by simp only [hd]; omega)
  simp only [e]
  exact div_four _

/-- The scores' greatest entry in a row. -/
theorem smax_at (r : Fin 1024) (h : Fin 4) (t : Fin 32) : val_main_v26 (F := Ideal) X.x0 X.x2 X.x3 X.x5 X.x6 (ix3 r h t) = fmax fun u => val_main_v23 (F := Ideal) X.x0 X.x2 X.x3 X.x5 X.x6 (ix4 r h t u) := by
  rw [val_main_v26_apply, val_main_v25_apply, val_main_cst_1_apply]
  refine (max_bot c_ninf).trans ?_
  rw [val_main_v24]
  exact hmax_last _ _ _ _ c_ninf r h t

/-- The attention weights. -/
theorem prob_at (r : Fin 1024) (h : Fin 4) (t u : Fin 32) : val_main_v34 (F := Ideal) X.x0 X.x2 X.x3 X.x5 X.x6 (ix4 r h t u) =
    smax (fun u => val_main_v23 (F := Ideal) X.x0 X.x2 X.x3 X.x5 X.x6 (ix4 r h t u)) u := by
  pointwise [val_main_v27, val_main_v28, val_main_v29, val_main_v30, val_main_v31, val_main_v32, val_main_v33, val_main_v34, val_main_cst_2, smax_at]
  rfl

/-- The heads side by side. -/
theorem att_at (r : Fin 1024) (t : Fin 32) (d : Fin 64) : val_main_v37 (F := Ideal) X.x0 X.x2 X.x3 X.x4 X.x5 X.x6 X.x7 (ix3 r t d) =
    attn (fun u => lin (X.args.seq r u) X.args.p.Wq X.args.p.bq) (fun u => lin (X.args.seq r u) X.args.p.Wk X.args.p.bk)
      (fun u => lin (X.args.seq r u) X.args.p.Wv X.args.p.bv) t d := by
  pointwise [val_main_v35, val_main_v36, val_main_v37, val_main_v17, val_main_v18, prob_at, score_at, v_at]
  rfl

/-- The first residual. -/
theorem res_at (r : Fin 1024) (t : Fin 32) (d : Fin 64) : val_main_v42 (F := Ideal) X.x0 X.x2 X.x3 X.x4 X.x5 X.x6 X.x7 X.x8 X.x9 (ix3 r t d) = X.args.seq r t d +
    lin (attn (fun u => lin (X.args.seq r u) X.args.p.Wq X.args.p.bq) (fun u => lin (X.args.seq r u) X.args.p.Wk X.args.p.bk)
      (fun u => lin (X.args.seq r u) X.args.p.Wv X.args.p.bv) t) X.args.p.Wo X.args.p.bo d := by
  pointwise [val_main_v38, val_main_v39, val_main_v40, val_main_v41, val_main_v42, val_main_v0, att_at]
  rfl

/-- The rows after the first norm. -/
theorem h1_at (r : Fin 1024) (t : Fin 32) (d : Fin 64) : val_main_v66 (F := Ideal) X.x0 X.x2 X.x3 X.x4 X.x5 X.x6 X.x7 X.x8 X.x9 X.x10 X.x11 (ix3 r t d) = h1 X.args.p (X.args.seq r) t d := by
  pointwise [val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_cst_3, val_main_cst_4, val_main_cst_5, val_main_cst_6, val_main_cst_7, res_at]
  rfl

end Cert.ReferenceIdeal.Ref
-- ==== Proof.TopK.lean ====
/- The two greatest of a row of sixteen, by a stable sort. -/
module

public import proofs.«01_k».proof.Proof.Top
public import proofs.«01_k».proof.Proof.Reals
public import Idealize.ShloMosaic.Lib.SortPrefix
public import Idealize.ShloMosaic.Lib.Pointwise

@[expose] public section

noncomputable section

namespace Cert.Spec

open Idealize.ShloMosaic

/-- Two relations that agree where the second argument comes earlier in an increasing list sort it alike: the stable sort asks nothing else. -/
theorem stableSort_congr_lt {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The same of the sort's source positions. -/
theorem sortedFrom_congr_lt {n : ℕ} (R R' : Fin n → Fin n → Bool) (h : ∀ a b, a < b → R b a = R' b a) : sortedFrom R = sortedFrom R' := by
  have e : sortPositions n R = sortPositions n R' := stableSort_congr_lt R R' h _ (List.pairwise_lt_finRange n)
  funext k
  unfold sortedFrom
  rw [List.get_of_eq e]
  rfl

/-- The places of the two greatest entries. -/
def two (L : Fin 16 → EReal) (j : Fin 2) : Fin 16 := if j = 0 then top L else top (drop L (top L))

/-- The two places differ when the entries are reals. -/
theorem two_ne {L : Fin 16 → EReal} (hL : ∀ e, IsR (L e)) : top (drop L (top L)) ≠ top L := by
  intro h
  obtain ⟨h1, -⟩ := top_spec (drop L (top L))
  rw [h] at h1
  have hb : fmax (drop L (top L)) = ⊥ := by rw [← h1]; simp [drop]
  obtain ⟨p, hp⟩ : ∃ p : Fin 16, p ≠ top L := by
    by_cases h0 : top L = 0
    · exact ⟨1, by rw [h0]; decide⟩
    · exact ⟨0, fun e => h0 e.symm⟩
  have hle := le_fmax (drop L (top L)) p
  rw [hb, drop, if_neg hp, le_bot_iff] at hle
  obtain ⟨x, hx⟩ := hL p
  rw [hx] at hle
  exact EReal.coe_ne_bot x hle

/-- The second place holds the second greatest entry. -/
theorem two_val {L : Fin 16 → EReal} (hL : ∀ e, IsR (L e)) : L (top (drop L (top L))) = fmax (drop L (top L)) := by
  obtain ⟨h1, -⟩ := top_spec (drop L (top L))
  rw [← h1, drop, if_neg (two_ne hL)]

/-- A stable sort of sixteen reals, greatest first, starts with the two greatest entries. -/
theorem sorted_two {L : Fin 16 → EReal} (hL : ∀ e, IsR (L e)) (R : Fin 16 → Fin 16 → Bool) (hR : ∀ a b, R a b = decide (L b < L a)) (j : Fin 2) :
    sortedFrom R (j.castLE (by decide)) = two L j := by
  have hB := StrictTotalBefore.of_key_then_position (fun x y : EReal => decide (y < x)) L (fun a => by simp)
    (fun a b c h1 h2 => by simp only [decide_eq_true_eq] at *; exact h2.trans h1)
    (fun a b => by simp only [decide_eq_true_eq]; rcases lt_trichotomy a b with h | h | h <;> simp [h])
  rw [sortedFrom_congr_lt R _ (fun a b hab => by rw [hR]; simp [not_lt.2 hab.le] :
    ∀ a b, a < b → R b a = (decide (L a < L b) || (decide (L b = L a) && decide (b < a))))]
  obtain ⟨h0, h0'⟩ := top_spec L
  obtain ⟨h1, h1'⟩ := top_spec (drop L (top L))
  have hne := two_ne hL
  have hv := two_val hL
  have first (p : Fin 16) (hp : p ≠ top L) : (decide (L (top L) < L p) || (decide (L p = L (top L)) && decide (p < top L))) = false := by
    have := le_fmax L p
    simp only [Bool.or_eq_false_iff, Bool.and_eq_false_iff, decide_eq_false_iff_not]
    refine ⟨by rw [h0]; exact not_lt.2 this, ?_⟩
    by_cases hl : p < top L
    · exact Or.inl (by rw [h0]; exact h0' p hl)
    · exact Or.inr hl
  refine hB.sortedFrom_eq_of_prefix (by decide) (two L) ?_ ?_ ?_ j
  · intro i k h
    fin_cases i <;> fin_cases k <;> simp [two] at h ⊢
    · exact hne h.symm
    · exact hne h
  · intro i k h
    fin_cases i <;> fin_cases k <;> simp at h
    exact first _ hne
  · intro i p h
    have p0 : p ≠ top L := fun e => h 0 e.symm
    have p1 : p ≠ top (drop L (top L)) := fun e => h 1 e.symm
    fin_cases i
    · exact first p p0
    · show (decide (L (top (drop L (top L))) < L p) || (decide (L p = L (top (drop L (top L)))) && decide (p < top (drop L (top L))))) = false
      have hp : drop L (top L) p = L p := by rw [drop, if_neg p0]
      have := le_fmax (drop L (top L)) p
      rw [hp] at this
      simp only [Bool.or_eq_false_iff, Bool.and_eq_false_iff, decide_eq_false_iff_not]
      refine ⟨by rw [hv]; exact not_lt.2 this, ?_⟩
      by_cases hl : p < top (drop L (top L))
      · exact Or.inl (by rw [hv, ← hp]; exact h1' p hl)
      · exact Or.inr hl

/-- The strict order on reals with infinities, as the sort reads it. -/
theorem gt_total (x y : EReal) : (FloatOps.cmpfTotal (F := Ideal) (φ := .f32) .gt x y == 1#1) = decide (y < x) := by
  show (BitVec.ofBool (decide (y < x)) == 1#1) = decide (y < x)
  by_cases h : y < x <;> simp [h]

/-- Moving along the second axis from a place of a table. -/
theorem along_ix2 {N M : ℕ} (r : Fin N) (c k : Fin M) : (ix2 r c : Shape.Idx ⟨2, ![N, M]⟩).along 1 k = ix2 r k := by
  unfold Shape.Idx.along
  funext a
  fin_cases a <;> rfl

/-- Reading the first two columns of a table of sixteen. -/
theorem key {N : ℕ} {α : Type} (f : Shape.Idx ⟨2, ![N, 16]⟩ → α) (j : Fin 2) (r : Fin N) (v : α) (h : f (ix2 r (j.castLE (by decide))) = v)
    {b : ∀ a : Fin 2, 0 + (ix2 r j a).val < (![N, 16] : Fin 2 → ℕ) a} : f (fun a => ⟨0 + (ix2 r j a).val, b a⟩) = v := by
  rw [← h]
  congr 1
  funext a
  fin_cases a <;> exact Fin.ext (Nat.zero_add _)

/-- The element a sort along the second axis brings to a place of a table. -/
theorem sorted_read {N : ℕ} {α β : Type} (x : Shape.Idx ⟨2, ![N, 16]⟩ → α) (P : α → α → Bool) (g : Shape.Idx ⟨2, ![N, 16]⟩ → β) (r : Fin N) (c : Fin 16) :
    g ((ix2 r c : Shape.Idx ⟨2, ![N, 16]⟩).along 1 (sortedFrom (fun k k' =>
      P (x ((ix2 r c : Shape.Idx ⟨2, ![N, 16]⟩).along 1 k)) (x ((ix2 r c : Shape.Idx ⟨2, ![N, 16]⟩).along 1 k'))) c)) =
      g (ix2 r (sortedFrom (fun k k' => P (x (ix2 r k)) (x (ix2 r k'))) c)) := by
  have e (A : Fin 16 → Shape.Idx ⟨2, ![N, 16]⟩) (h : A = fun k => ix2 r k) :
      g (A (sortedFrom (fun k k' => P (x (A k)) (x (A k'))) c)) = g (ix2 r (sortedFrom (fun k k' => P (x (ix2 r k)) (x (ix2 r k'))) c)) := by
    subst h; rfl
  exact e (fun k => (ix2 r c : Shape.Idx ⟨2, ![N, 16]⟩).along 1 k) (funext fun k => along_ix2 r c k)

variable {N : ℕ} (x : Vec Ideal ⟨2, ![N, 16]⟩ .f32) (hs : Shape.Slices ⟨2, ![N, 16]⟩ (fun _ => 0) ⟨2, ![N, 2]⟩) (r : Fin N) (hx : ∀ e, IsR (x (ix2 r e)))
include hx

/-- The two greatest entries of each row. -/
theorem topK_values (j : Fin 2) :
    (Host.topK ⟨2, ![N, 2]⟩ 1 (FloatOps.cmpfTotal (F := Ideal) (φ := .f32) .gt) x hs).1 (ix2 r j) = x (ix2 r (two (fun e => x (ix2 r e)) j)) := by
  rw [← sorted_two hx (fun k k' => FloatOps.cmpfTotal (F := Ideal) (φ := .f32) .gt (x (ix2 r k)) (x (ix2 r k')) == 1#1) (fun a b => gt_total _ _) j]
  refine key (fun J => x (J.along 1 (sortedFrom (fun k k' => FloatOps.cmpfTotal (F := Ideal) (φ := .f32) .gt (x (J.along 1 k)) (x (J.along 1 k')) == 1#1) (J 1)))) j r _ ?_
  exact sorted_read x (fun a b => FloatOps.cmpfTotal (F := Ideal) (φ := .f32) .gt a b == 1#1) x r _

/-- The places of the two greatest entries of each row. -/
theorem topK_places (j : Fin 2) :
    (Host.topK ⟨2, ![N, 2]⟩ 1 (FloatOps.cmpfTotal (F := Ideal) (φ := .f32) .gt) x hs).2 (ix2 r j) = BitVec.ofNat 32 (two (fun e => x (ix2 r e)) j).val := by
  rw [← sorted_two hx (fun k k' => FloatOps.cmpfTotal (F := Ideal) (φ := .f32) .gt (x (ix2 r k)) (x (ix2 r k')) == 1#1) (fun a b => gt_total _ _) j]
  refine key (fun J => BitVec.ofNat 32 ((J.along 1 (sortedFrom (fun k k' => FloatOps.cmpfTotal (F := Ideal) (φ := .f32) .gt (x (J.along 1 k)) (x (J.along 1 k')) == 1#1) (J 1))) 1).val) j r _ ?_
  exact sorted_read x (fun a b => FloatOps.cmpfTotal (F := Ideal) (φ := .f32) .gt a b == 1#1) (fun i => BitVec.ofNat 32 (i 1).val) r _

end Cert.Spec
-- ==== Proof.RefB.lean ====
/- The reference's router and experts, at coordinates. -/
module

public import proofs.«01_k».proof.Proof.RefA
public import proofs.«01_k».proof.Proof.TopK
public import Idealize.ShloMosaic.Lib.Routing.OpsPair
public import Idealize.ShloMosaic.Lib.Routing.OpsSet

@[expose] public section

set_option maxRecDepth 16384

noncomputable section

namespace Cert.ReferenceIdeal.Ref

open Cert.ReferenceIdeal.Gen Cert.ReferenceIdeal.Read Cert.Spec
open Idealize.ShloMosaic

variable (X : Arrs)

/-- The entries of the arrays the router depends on are reals. -/
structure Arrs.Real : Prop where
  /-- the input -/
  h0 : ∀ i, IsR (X.x0 i)
  /-- query weights -/
  h2 : ∀ i, IsR (X.x2 i)
  /-- key weights -/
  h3 : ∀ i, IsR (X.x3 i)
  /-- value weights -/
  h4 : ∀ i, IsR (X.x4 i)
  /-- query bias -/
  h5 : ∀ i, IsR (X.x5 i)
  /-- key bias -/
  h6 : ∀ i, IsR (X.x6 i)
  /-- value bias -/
  h7 : ∀ i, IsR (X.x7 i)
  /-- output weights -/
  h8 : ∀ i, IsR (X.x8 i)
  /-- output bias -/
  h9 : ∀ i, IsR (X.x9 i)
  /-- first norm's scale -/
  h10 : ∀ i, IsR (X.x10 i)
  /-- first norm's shift -/
  h11 : ∀ i, IsR (X.x11 i)
  /-- router weights -/
  h12 : ∀ i, IsR (X.x12 i)
  /-- router bias -/
  h13 : ∀ i, IsR (X.x13 i)

/-- Row `q` of all rows after the first norm. -/
def row (q : Fin 32768) : Fin 64 → EReal := h1 X.args.p (X.args.seq ⟨q.val / 32, by omega⟩) ⟨q.val % 32, by omega⟩

/-- The rows side by side. -/
theorem row_at (q : Fin 32768) (d : Fin 64) : val_main_v67 (F := Ideal) X.x0 X.x2 X.x3 X.x4 X.x5 X.x6 X.x7 X.x8 X.x9 X.x10 X.x11 (ix2 q d) = row X q d := by
  pointwise [val_main_v67, h1_at]
  rfl

/-- The logits. -/
theorem log_at (q : Fin 32768) (e : Fin 16) : val_main_v71 (F := Ideal) X.x0 X.x2 X.x3 X.x4 X.x5 X.x6 X.x7 X.x8 X.x9 X.x10 X.x11 X.x12 X.x13 (ix2 q e) = logits X.args.p (row X q) e := by
  pointwise [val_main_v68, val_main_v69, val_main_v70, val_main_v71, row_at]
  rfl

variable {X} (hX : X.Real) (q : Fin 32768)
include hX

/-- The logits are reals. -/
theorem log_real (e : Fin 16) : IsR (logits X.args.p (row X q) e) := by
  have hs (t : Fin 32) (d : Fin 64) : IsR (X.args.seq ⟨q.val / 32, by omega⟩ t d) := hX.h0 _
  refine IsR.lin (IsR.ln (fun d => (hs _ d).add (IsR.lin (IsR.attn (fun t => IsR.lin (hs t) (fun k d => hX.h2 _) fun d => hX.h5 _)
    (fun t => IsR.lin (hs t) (fun k d => hX.h3 _) fun d => hX.h6 _) (fun t => IsR.lin (hs t) (fun k d => hX.h4 _) fun d => hX.h7 _) _)
    (fun k d => hX.h8 _) (fun d => hX.h9 _) d)) (fun d => hX.h10 _) fun d => hX.h11 _) (fun k e => hX.h12 _) (fun e => hX.h13 _) e

/-- The same of the array. -/
theorem log_real' (e : Fin 16) : IsR (val_main_v71 (F := Ideal) X.x0 X.x2 X.x3 X.x4 X.x5 X.x6 X.x7 X.x8 X.x9 X.x10 X.x11 X.x12 X.x13 (ix2 q e)) := by
  rw [log_at]; exact log_real hX q e

/-- The two greatest logits. -/
theorem values_at (j : Fin 2) : val_main_values (F := Ideal) X.x0 X.x2 X.x3 X.x4 X.x5 X.x6 X.x7 X.x8 X.x9 X.x10 X.x11 X.x12 X.x13 (ix2 q j) = logits X.args.p (row X q) (two (logits X.args.p (row X q)) j) := by
  unfold val_main_values
  rw [topK_values _ _ q (log_real' hX q) j]
  simp only [log_at]

/-- Their places. -/
theorem places_at (j : Fin 2) : val_main_indices (F := Ideal) X.x0 X.x2 X.x3 X.x4 X.x5 X.x6 X.x7 X.x8 X.x9 X.x10 X.x11 X.x12 X.x13 (ix2 q j) = BitVec.ofNat 32 (two (logits X.args.p (row X q)) j).val := by
  unfold val_main_indices
  rw [topK_places _ _ q (log_real' hX q) j]
  simp only [log_at]

/-- The greater of the two is the greatest logit. -/
theorem vmax_at : val_main_v74 (F := Ideal) X.x0 X.x2 X.x3 X.x4 X.x5 X.x6 X.x7 X.x8 X.x9 X.x10 X.x11 X.x12 X.x13 (ix1 q) = fmax (logits X.args.p (row X q)) := by
  rw [val_main_v74_apply, val_main_v73_apply, val_main_cst_9_apply]
  refine (max_bot c_ninf).trans ?_
  rw [val_main_v72]
  refine (hmax_second _ _ _ _ c_ninf q).trans ?_
  simp only [values_at hX]
  refine le_antisymm (fmax_le _ _ fun l => le_fmax _ _) ?_
  refine le_trans (le_of_eq (top_spec (logits X.args.p (row X q))).1.symm) ?_
  exact le_fmax (fun l : Fin 2 => logits X.args.p (row X q) (two (logits X.args.p (row X q)) l)) 0

/-- The two gates. -/
theorem gates_at (j : Fin 2) : val_main_v82 (F := Ideal) X.x0 X.x2 X.x3 X.x4 X.x5 X.x6 X.x7 X.x8 X.x9 X.x10 X.x11 X.x12 X.x13 (ix2 q j) =
    if j = 0 then Ideal.div 1 (1 + gt (logits X.args.p (row X q))) else Ideal.div (gt (logits X.args.p (row X q))) (1 + gt (logits X.args.p (row X q))) := by
  pointwise [val_main_v75, val_main_v76, val_main_v77, val_main_v78, val_main_v79, val_main_v80, val_main_v81, val_main_v82, val_main_cst_10, vmax_at hX, values_at hX]
  have hz : (two (logits X.args.p (row X q)) 0) = top (logits X.args.p (row X q)) := rfl
  have a0 : Ideal.exp (logits X.args.p (row X q) (two (logits X.args.p (row X q)) 0) - fmax (logits X.args.p (row X q))) = 1 := by
    rw [hz, (top_spec (logits X.args.p (row X q))).1, (IsR.fmax (log_real hX q)).sub_self, ← EReal.coe_zero, Ideal.exp_coe, Real.exp_zero, EReal.coe_one]
  have a1 : Ideal.exp (logits X.args.p (row X q) (two (logits X.args.p (row X q)) 1) - fmax (logits X.args.p (row X q))) = gt (logits X.args.p (row X q)) := by
    rw [gt, ← two_val (log_real hX q)]; rfl
  rw [Fin.sum_univ_two, a0, a1]
  fin_cases j
  · exact congrArg (fun z => Ideal.div z _) a0
  · exact congrArg (fun z => Ideal.div z _) a1

omit hX in
/-- The words of the scatter's rows. -/
theorem word0_at (j : Fin 2) : val_main_v99 (F := Ideal) X.x0 X.x2 X.x3 X.x4 X.x5 X.x6 X.x7 X.x8 X.x9 X.x10 X.x11 X.x12 X.x13 (ix3 q j 0) = BitVec.ofNat 32 q.val := by
  pointwise [val_main_v83, val_main_v84, val_main_v85, val_main_v86, val_main_v87, val_main_v88, val_main_v89, val_main_v90, val_main_v91, val_main_v92, val_main_v93, val_main_v94, val_main_v95, val_main_v96, val_main_v97, val_main_v98, val_main_v99, val_main_c, val_main_c_12, val_main_c_13, val_main_c_14]
  exact Routing.wrap_of_lt _ _ (by rw [BitVec.toNat_ofNat]; omega)

/-- The words of the scatter's columns. -/
theorem word1_at (j : Fin 2) : val_main_v99 (F := Ideal) X.x0 X.x2 X.x3 X.x4 X.x5 X.x6 X.x7 X.x8 X.x9 X.x10 X.x11 X.x12 X.x13 (ix3 q j 1) = BitVec.ofNat 32 (two (logits X.args.p (row X q)) j).val := by
  pointwise [val_main_v83, val_main_v84, val_main_v85, val_main_v86, val_main_v87, val_main_v88, val_main_v89, val_main_v90, val_main_v91, val_main_v92, val_main_v93, val_main_v94, val_main_v95, val_main_v96, val_main_v97, val_main_v98, val_main_v99, val_main_c, val_main_c_12, val_main_c_13, val_main_c_14, places_at hX]
  exact Routing.wrap_of_lt _ _ (by rw [BitVec.toNat_ofNat]; omega)

/-- The scattered gates. -/
theorem scat_at (e : Fin 16) : val_main_v100 (F := Ideal) X.x0 X.x2 X.x3 X.x4 X.x5 X.x6 X.x7 X.x8 X.x9 X.x10 X.x11 X.x12 X.x13 (ix2 q e) = gate (logits X.args.p (row X q)) e := by
  have hl (k : S32768x2.Idx) : scatter_S32768x16_S32768x2x2_S32768x2_n_01_01_2.resultIdx? k (val_main_v99 (F := Ideal) X.x0 X.x2 X.x3 X.x4 X.x5 X.x6 X.x7 X.x8 X.x9 X.x10 X.x11 X.x12 X.x13) = some (ix2 q e) ↔
      ∃ j : Fin 2, k = ix2 q j ∧ two (logits X.args.p (row X q)) j = e := by
    obtain ⟨a, b, rfl⟩ : ∃ (a : Fin 32768) (b : Fin 2), k = ix2 a b := ⟨k 0, k 1, funext fun a => by fin_cases a <;> rfl⟩
    refine (Routing.scatter_lands2 scatter_S32768x16_S32768x2x2_S32768x2_n_01_01_2 rfl rfl rfl _ a b q e).trans ?_
    change (val_main_v99 (F := Ideal) X.x0 X.x2 X.x3 X.x4 X.x5 X.x6 X.x7 X.x8 X.x9 X.x10 X.x11 X.x12 X.x13 (ix3 a b 0)).toInt = _ ∧ (val_main_v99 (F := Ideal) X.x0 X.x2 X.x3 X.x4 X.x5 X.x6 X.x7 X.x8 X.x9 X.x10 X.x11 X.x12 X.x13 (ix3 a b 1)).toInt = _ ↔ _
    rw [word0_at, word1_at hX, StableHlo.Predicate.toInt_ofNat_small _ (by omega), StableHlo.Predicate.toInt_ofNat_small _ (by omega)]
    constructor
    · rintro ⟨h0, h1⟩
      obtain rfl : a = q := Fin.ext (by omega)
      exact ⟨b, rfl, Fin.ext (by omega)⟩
    · rintro ⟨j, h0, h1⟩
      obtain rfl : a = q := congrFun h0 0
      obtain rfl : b = j := congrFun h0 1
      exact ⟨rfl, by rw [h1]⟩
  have hne := two_ne (log_real hX q)
  unfold val_main_v100
  by_cases h0 : top (logits X.args.p (row X q)) = e
  · rw [Routing.scatter_set_hit _ _ _ _ _ (val_main_v82 (F := Ideal) X.x0 X.x2 X.x3 X.x4 X.x5 X.x6 X.x7 X.x8 X.x9 X.x10 X.x11 X.x12 X.x13 (ix2 q 0)) ?_ (ix2 q 0) ((hl _).2 ⟨0, rfl, h0⟩), gates_at hX, if_pos rfl, gate, if_pos h0,
      if_neg (fun h => hne (h.trans h0.symm)), add_zero]
    intro k hk
    obtain ⟨j, rfl, hj⟩ := (hl k).1 hk
    fin_cases j
    · rfl
    · exact absurd (hj.trans h0.symm) hne
  · by_cases h1 : top (drop (logits X.args.p (row X q)) (top (logits X.args.p (row X q)))) = e
    · rw [Routing.scatter_set_hit _ _ _ _ _ (val_main_v82 (F := Ideal) X.x0 X.x2 X.x3 X.x4 X.x5 X.x6 X.x7 X.x8 X.x9 X.x10 X.x11 X.x12 X.x13 (ix2 q 1)) ?_ (ix2 q 1) ((hl _).2 ⟨1, rfl, h1⟩), gates_at hX, if_neg (by decide), gate, if_neg h0,
        if_pos h1, zero_add]
      intro k hk
      obtain ⟨j, rfl, hj⟩ := (hl k).1 hk
      fin_cases j
      · exact absurd hj h0
      · rfl
    · rw [Routing.scatter_set_miss _ _ _ _ _ ?_, gate, if_neg h0, if_neg h1, add_zero]
      · pointwise [val_main_v83, val_main_cst_11]
      · intro k hk
        obtain ⟨j, -, hj⟩ := (hl k).1 hk
        fin_cases j
        · exact h0 hj
        · exact h1 hj

omit hX in
/-- What each expert returns. -/
theorem exp_at (e : Fin 16) (d : Fin 64) : val_main_v110 (F := Ideal) X.x0 X.x2 X.x3 X.x4 X.x5 X.x6 X.x7 X.x8 X.x9 X.x10 X.x11 X.x14 X.x15 X.x16 X.x17 (ix3 q e d) = expert (row X q) (X.args.p.W1 e) (X.args.p.b1 e) (X.args.p.W2 e) (X.args.p.b2 e) d := by
  pointwise [val_main_v101, val_main_v102, val_main_v103, val_main_v104, val_main_v105, val_main_v106, val_main_v107, val_main_v108, val_main_v109, val_main_v110, val_main_call0_cst, val_main_call0_v0, row_at]
  exact congrArg (· + _) (Finset.sum_congr rfl fun k _ => mul_comm _ _)

/-- The gated experts. -/
theorem moe_at (d : Fin 64) : val_main_v111 (F := Ideal) X.x0 X.x2 X.x3 X.x4 X.x5 X.x6 X.x7 X.x8 X.x9 X.x10 X.x11 X.x12 X.x13 X.x14 X.x15 X.x16 X.x17 (ix2 q d) = moe X.args.p (row X q) d := by
  pointwise [val_main_v111, scat_at hX, exp_at]
  rfl

/-- The second residual. -/
theorem sum_at (r : Fin 1024) (t : Fin 32) (d : Fin 64) : val_main_v113 (F := Ideal) X.x0 X.x2 X.x3 X.x4 X.x5 X.x6 X.x7 X.x8 X.x9 X.x10 X.x11 X.x12 X.x13 X.x14 X.x15 X.x16 X.x17 (ix3 r t d) =
    h1 X.args.p (X.args.seq r) t d + moe X.args.p (h1 X.args.p (X.args.seq r) t) d := by
  have e : row X ⟨r.val * 32 + t.val, by omega⟩ = h1 X.args.p (X.args.seq r) t := by
    have e0 : (⟨(r.val * 32 + t.val) / 32, by omega⟩ : Fin 1024) = r := Fin.ext (by show (r.val * 32 + t.val) / 32 = r.val; omega)
    have e1 : (⟨(r.val * 32 + t.val) % 32, by omega⟩ : Fin 32) = t := Fin.ext (by show (r.val * 32 + t.val) % 32 = t.val; omega)
    show h1 X.args.p (X.args.seq ⟨(r.val * 32 + t.val) / 32, by omega⟩) ⟨(r.val * 32 + t.val) % 32, by omega⟩ = _
    rw [e0, e1]
  pointwise [val_main_v112, val_main_v113, h1_at, moe_at hX]
  rw [e]

end Cert.ReferenceIdeal.Ref
-- ==== Proof.RefC.lean ====
/- The reference's second norm, exponential unit and distilling, at coordinates. -/
module

public import proofs.«01_k».proof.Proof.RefB

@[expose] public section

set_option maxRecDepth 16384

noncomputable section

namespace Cert.ReferenceIdeal.Ref

open Cert.ReferenceIdeal.Gen Cert.ReferenceIdeal.Read Cert.Spec
open Idealize.ShloMosaic

variable {X : Arrs} (hX : X.Real)
include hX

/-- The rows after the second norm. -/
theorem h2_at (r : Fin 1024) (t : Fin 32) (d : Fin 64) : val_main_v137 (F := Ideal) X.x0 X.x2 X.x3 X.x4 X.x5 X.x6 X.x7 X.x8 X.x9 X.x10 X.x11 X.x12 X.x13 X.x14 X.x15 X.x16 X.x17 X.x18 X.x19 (ix3 r t d) =
    ln (fun d => h1 X.args.p (X.args.seq r) t d + moe X.args.p (h1 X.args.p (X.args.seq r) t) d) X.args.p.g2 X.args.p.c2 d := by
  pointwise [val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_cst_15, val_main_cst_16, val_main_cst_17, val_main_cst_18, val_main_cst_19, sum_at hX]
  rfl

/-- The distilling layer before its exponential unit. -/
theorem pre_at (r : Fin 1024) (t : Fin 32) (d : Fin 64) : val_main_v141 (F := Ideal) X.x0 X.x2 X.x3 X.x4 X.x5 X.x6 X.x7 X.x8 X.x9 X.x10 X.x11 X.x12 X.x13 X.x14 X.x15 X.x16 X.x17 X.x18 X.x19 X.x20 X.x21 (ix3 r t d) =
    lin (ln (fun d => h1 X.args.p (X.args.seq r) t d + moe X.args.p (h1 X.args.p (X.args.seq r) t) d) X.args.p.g2 X.args.p.c2) X.args.p.Wd X.args.p.bd d := by
  pointwise [val_main_v138, val_main_v139, val_main_v140, val_main_v141, h2_at hX]
  rfl

omit hX in
/-- The exponential unit as the reference selects it. -/
theorem elu_sel (z c : EReal) : (if 0 < z then z else Ideal.exp (if 0 < z then c else z) - 1) = elu z := by
  unfold elu
  split_ifs with h
  · rfl
  · rw [min_eq_left (not_lt.1 h)]

/-- The rows after the exponential unit. -/
theorem tail_at (r : Fin 1024) (t : Fin 32) (d : Fin 64) : val_main_v142 (F := Ideal) X.x0 X.x2 X.x3 X.x4 X.x5 X.x6 X.x7 X.x8 X.x9 X.x10 X.x11 X.x12 X.x13 X.x14 X.x15 X.x16 X.x17 X.x18 X.x19 X.x20 X.x21 (ix3 r t d) = tail X.args.p (h1 X.args.p (X.args.seq r) t) d := by
  pointwise [val_main_v142, val_main_call1_cst, val_main_call1_v0, val_main_call1_v1, val_main_call1_cst_0, val_main_call1_v2, val_main_call1_v3,
    val_main_call1_cst_1, val_main_call1_call0_v0, val_main_call1_call0_v1, val_main_call1_v4, val_main_call1_v5, val_main_call1_cst_2, val_main_call1_v6,
    val_main_call1_v7, pre_at hX]
  exact elu_sel _ _

/-- The greater of two neighbouring positions. -/
theorem pool_at (r : Fin 1024) (t : Fin 16) (d : Fin 64) : val_main_v144 (F := Ideal) X.x0 X.x2 X.x3 X.x4 X.x5 X.x6 X.x7 X.x8 X.x9 X.x10 X.x11 X.x12 X.x13 X.x14 X.x15 X.x16 X.x17 X.x18 X.x19 X.x20 X.x21 (ix3 r t d) = distill X.args.p (X.args.seq r) t d := by
  rw [val_main_v144]
  refine (hmax_third _ _ _ _ c_ninf r t d).trans ?_
  unfold distill
  congr 1
  funext j
  pointwise [val_main_v143, tail_at hX]
  exact congrArg (fun u => tail X.args.p (h1 X.args.p (X.args.seq r) u) d) (Fin.ext (by show t.val * 2 + j.val = 2 * t.val + j.val; omega))

/-- The distilled sequences by graph. -/
theorem nodes_at (g : Fin 32) (n : Fin 512) (d : Fin 64) : val_main_v147 (F := Ideal) X.x0 X.x2 X.x3 X.x4 X.x5 X.x6 X.x7 X.x8 X.x9 X.x10 X.x11 X.x12 X.x13 X.x14 X.x15 X.x16 X.x17 X.x18 X.x19 X.x20 X.x21 (ix3 g n d) =
    distill X.args.p (X.args.seq (col ⟨g.val / 16, by omega⟩ n)) ⟨g.val % 16, by omega⟩ d := by
  pointwise [val_main_v145, val_main_v146, val_main_v147, pool_at hX]
  rfl

end Cert.ReferenceIdeal.Ref
-- ==== Proof.RefD.lean ====
/- The reference's graph attention, at coordinates. -/
module

public import proofs.«01_k».proof.Proof.RefC

@[expose] public section

set_option maxRecDepth 16384

noncomputable section

namespace Cert.ReferenceIdeal.Ref

open Cert.ReferenceIdeal.Gen Cert.ReferenceIdeal.Read Cert.Spec
open Idealize.ShloMosaic

variable (X : Arrs)

/-- The tiled adjacency matrices. -/
theorem adj_at (g : Fin 32) (i j : Fin 512) : val_main_v150 (F := Ideal) X.x1 (ix3 g i j) = X.args.adj ⟨g.val % 2, by omega⟩ i j := by
  pointwise [val_main_v148, val_main_v149, val_main_v150]
  rfl

/-- A head's features. -/
theorem feat_at (g : Fin 32) (i : Fin 512) (h : Fin 4) (k : Fin 16) : val_main_v152 (F := Ideal) X.x0 X.x2 X.x3 X.x4 X.x5 X.x6 X.x7 X.x8 X.x9 X.x10 X.x11 X.x12 X.x13 X.x14 X.x15 X.x16 X.x17 X.x18 X.x19 X.x20 X.x21 X.x22 (ix4 g i h k) = ∑ m, val_main_v147 (F := Ideal) X.x0 X.x2 X.x3 X.x4 X.x5 X.x6 X.x7 X.x8 X.x9 X.x10 X.x11 X.x12 X.x13 X.x14 X.x15 X.x16 X.x17 X.x18 X.x19 X.x20 X.x21 (ix3 g i m) * X.args.wg m (hd h k) := by
  pointwise [val_main_v151, val_main_v152]
  have e : (⟨h.val * 16 + k.val, by omega⟩ : Fin 64) = hd h k := Fin.ext (by show h.val * 16 + k.val = 16 * h.val + k.val; omega)
  generalize val_main_v147 (F := Ideal) X.x0 X.x2 X.x3 X.x4 X.x5 X.x6 X.x7 X.x8 X.x9 X.x10 X.x11 X.x12 X.x13 X.x14 X.x15 X.x16 X.x17 X.x18 X.x19 X.x20 X.x21 = v
  rw [e]
  rfl

/-- The edge scores before the mask. -/
theorem raw_at (g : Fin 32) (i j : Fin 512) (h : Fin 4) : val_main_v162 (F := Ideal) X.x0 X.x2 X.x3 X.x4 X.x5 X.x6 X.x7 X.x8 X.x9 X.x10 X.x11 X.x12 X.x13 X.x14 X.x15 X.x16 X.x17 X.x18 X.x19 X.x20 X.x21 X.x22 X.x23 X.x24 (ix4 g i j h) =
    leaky ((∑ k, val_main_v152 (F := Ideal) X.x0 X.x2 X.x3 X.x4 X.x5 X.x6 X.x7 X.x8 X.x9 X.x10 X.x11 X.x12 X.x13 X.x14 X.x15 X.x16 X.x17 X.x18 X.x19 X.x20 X.x21 X.x22 (ix4 g i h k) * X.args.src h k) + ∑ k, val_main_v152 (F := Ideal) X.x0 X.x2 X.x3 X.x4 X.x5 X.x6 X.x7 X.x8 X.x9 X.x10 X.x11 X.x12 X.x13 X.x14 X.x15 X.x16 X.x17 X.x18 X.x19 X.x20 X.x21 X.x22 (ix4 g j h k) * X.args.dst h k) := by
  pointwise [val_main_v153, val_main_v154, val_main_v155, val_main_v156, val_main_v157, val_main_v158, val_main_v159, val_main_v160, val_main_v161, val_main_v162, val_main_cst_21, val_main_call2_cst, val_main_call2_v0, val_main_call2_v1, val_main_call2_v2, val_main_call2_v3, val_main_call2_v4]
  generalize val_main_v152 (F := Ideal) X.x0 X.x2 X.x3 X.x4 X.x5 X.x6 X.x7 X.x8 X.x9 X.x10 X.x11 X.x12 X.x13 X.x14 X.x15 X.x16 X.x17 X.x18 X.x19 X.x20 X.x21 X.x22 = v
  simp only [mul_comm (X.x23 _), mul_comm (X.x24 _)]
  rfl

/-- The mask as the reference selects it. -/
theorem edge_sel (a : BitVec 32) (x y : EReal) : Scalar.select (IntOp.cmpi .sgt a 0#32) x y = if a.toInt ≤ 0 then y else x := by
  simp only [Scalar.select, IntOp.cmpi, BitVec.slt_eq_decide, BitVec.ofBool, BitVec.toInt_zero]
  by_cases h : a.toInt ≤ 0 <;> simp [h, not_lt.2, not_le.1]

/-- The masked edge scores. -/
theorem edge_at (g : Fin 32) (i j : Fin 512) (h : Fin 4) : val_main_v166 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 (ix4 g i j h) =
    edge (fun i k => val_main_v152 (F := Ideal) X.x0 X.x2 X.x3 X.x4 X.x5 X.x6 X.x7 X.x8 X.x9 X.x10 X.x11 X.x12 X.x13 X.x14 X.x15 X.x16 X.x17 X.x18 X.x19 X.x20 X.x21 X.x22 (ix4 g i h k)) (X.args.src h) (X.args.dst h) (X.args.adj ⟨g.val % 2, by omega⟩) i j := by
  pointwise [val_main_v163, val_main_v164, val_main_v165, val_main_v166, val_main_c_22, val_main_cst_23, val_main_call3_v0, val_main_call3_v1, adj_at, raw_at]
  exact edge_sel _ _ _

/-- The greatest score of a row. -/
theorem emax_at (g : Fin 32) (i : Fin 512) (h : Fin 4) : val_main_v169 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 (ix3 g i h) = fmax fun j => val_main_v166 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 (ix4 g i j h) := by
  rw [val_main_v169_apply, val_main_v168_apply, val_main_cst_25_apply]
  refine (max_bot c_ninf).trans ?_
  rw [val_main_v167]
  exact hmax_third _ _ _ _ c_ninf g i h

/-- The attention weights of the graph. -/
theorem eprob_at (g : Fin 32) (i j : Fin 512) (h : Fin 4) : val_main_v177 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 (ix4 g i j h) = smax (fun j => val_main_v166 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 (ix4 g i j h)) j := by
  pointwise [val_main_v170, val_main_v171, val_main_v172, val_main_v173, val_main_v174, val_main_v175, val_main_v176, val_main_v177, val_main_cst_26, emax_at]
  rfl

/-- The heads' sums side by side. -/
theorem cat_at (g : Fin 32) (i : Fin 512) (d : Fin 64) : val_main_v180 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 (ix3 g i d) =
    ∑ j, val_main_v152 (F := Ideal) X.x0 X.x2 X.x3 X.x4 X.x5 X.x6 X.x7 X.x8 X.x9 X.x10 X.x11 X.x12 X.x13 X.x14 X.x15 X.x16 X.x17 X.x18 X.x19 X.x20 X.x21 X.x22 (ix4 g j (head d) (off d)) * val_main_v177 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 (ix4 g i j (head d)) := by
  pointwise [val_main_v178, val_main_v179, val_main_v180]
  rfl

/-- The result's transposed layout. -/
theorem lay_at (b : Fin 2) (n : Fin 512) (t : Fin 16) (d : Fin 64) : val_main_v183 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 (ix4 b n t d) = max (val_main_v180 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 (ix3 ⟨b.val * 16 + t.val, by omega⟩ n d)) 0 := by
  pointwise [val_main_v181, val_main_v182, val_main_v183, val_main_call4_cst, val_main_call4_v0]

variable {X} (hX : X.Real)
include hX

/-- The graph attention of one graph. -/
theorem gat_at (g : Fin 32) (n : Fin 512) (d : Fin 64) : max (val_main_v180 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 (ix3 g n d)) 0 =
    gat (fun m k => distill X.args.p (X.args.seq (col ⟨g.val / 16, by omega⟩ m)) ⟨g.val % 16, by omega⟩ k) X.args.wg X.args.src X.args.dst
      (X.args.adj ⟨g.val % 2, by omega⟩) n d := by
  simp only [cat_at, eprob_at, edge_at, feat_at, nodes_at hX, mul_comm (∑ _, _)]
  rfl

/-- The reference's result. -/
theorem out_at (b : Fin 2) (n : Fin 512) (t : Fin 16) (d : Fin 64) : val_main_v183 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 (ix4 b n t d) = X.args.out b n t d := by
  rw [lay_at, gat_at hX]
  have e0 : (⟨(b.val * 16 + t.val) / 16, by omega⟩ : Fin 2) = b := Fin.ext (by show (b.val * 16 + t.val) / 16 = b.val; omega)
  have e1 : (⟨(b.val * 16 + t.val) % 16, by omega⟩ : Fin 16) = t := Fin.ext (by show (b.val * 16 + t.val) % 16 = t.val; omega)
  have e2 : (⟨(b.val * 16 + t.val) % 2, by omega⟩ : Fin 2) = side t := Fin.ext (by show (b.val * 16 + t.val) % 2 = t.val % 2; omega)
  simp only [e0, e1, e2]
  rfl

end Cert.ReferenceIdeal.Ref
-- ==== Proof.Pre.lean ====
/- The precondition read back: an array all of whose magnitudes are below infinity holds real numbers. -/
module

public import proofs.«01_k».proof.Pre_finite
public import proofs.«01_k».proof.Proof.Gen.Pre_finite
public import proofs.«01_k».proof.Proof.Reals
public import proofs.«01_k».proof.Proof.Consts
public import Idealize.ShloMosaic.Lib.ReduceAll

@[expose] public section

noncomputable section

namespace Cert.Pre_finite.Back

open Cert.Spec Cert.Pre_finite
open Idealize.ShloMosaic Idealize.ShloMosaic.StableHlo

/-- The pattern of infinity is `⊤`. -/
theorem c_inf : Ideal.ofBits .f32 0x7F800000#32 = ⊤ := by
  simp [Ideal.ofBits, Ideal.ieee]

/-- A number whose magnitude is below infinity is real. -/
theorem isR_of_abs {x : EReal} (h : max x (-x) < ⊤) : IsR x := by
  induction x with
  | bot => exact absurd h (by simp)
  | top => exact absurd h (by simp)
  | coe r => exact ⟨r, rfl⟩

/-- A scalar array has one index. -/
instance one_idx : Subsingleton S_.Idx := ⟨fun a b => funext fun k => k.elim0⟩

/-- One leaf of the precondition: the magnitudes of an array all lie below infinity, so its elements are real. -/
theorem leaf {s : Shape} {axes : List (Fin s.rank)} {x : FVec Ideal s .f32} {hb : S_.BroadcastsInDim s (![] : Fin S_.rank → Fin s.rank)} {h : s.ReducesTo axes S_}
    {hu : 0 < S_.numel} {j : S_.Idx}
    (e : Host.reduce IntOp.andi (cmpf .olt (Host.absf x) (broadcastInDim s ![] hb (constant S_ .f32 0x7F800000#32 : FVec Ideal S_ .f32)))
      (constantI S_ 1 1#1) h hu j = 1#1) (i : s.Idx) : IsR (x i) := by
  have e1 := Host.reduce_andi_all _ _ h hu j e i
  have e2 : BitVec.ofBool (decide (max (x i) (-(x i)) < Ideal.ofBits .f32 0x7F800000#32)) = 1#1 := e1
  rw [c_inf] at e2
  refine isR_of_abs ?_
  by_contra hn
  rw [decide_eq_false hn] at e2
  exact absurd e2 (by decide)

/-- A conjunction that holds, at an index, has both sides holding there. -/
theorem both {a b : IVec S_ 1} {j : S_.Idx} (h : andi a b j = 1#1) : a j = 1#1 ∧ b j = 1#1 := IntOp.andi_eq_one.1 h

/-- The precondition holds: the sequences, the weights and the affine vectors of the attention block, and the router's
    weights are arrays of real numbers. -/
theorem reals {x0 : FVec Ideal S2x512x32x64 .f32} {x1 : IVec S2x512x512 32} {x2 : FVec Ideal S64x64 .f32} {x3 : FVec Ideal S64x64 .f32} {x4 : FVec Ideal S64x64 .f32} {x5 : FVec Ideal S64 .f32} {x6 : FVec Ideal S64 .f32} {x7 : FVec Ideal S64 .f32} {x8 : FVec Ideal S64x64 .f32} {x9 : FVec Ideal S64 .f32} {x10 : FVec Ideal S64 .f32} {x11 : FVec Ideal S64 .f32} {x12 : FVec Ideal S64x16 .f32} {x13 : FVec Ideal S16 .f32} {x14 : FVec Ideal S16x64x64 .f32} {x15 : FVec Ideal S16x64 .f32} {x16 : FVec Ideal S16x64x64 .f32} {x17 : FVec Ideal S16x64 .f32} {x18 : FVec Ideal S64 .f32} {x19 : FVec Ideal S64 .f32} {x20 : FVec Ideal S64x64 .f32} {x21 : FVec Ideal S64 .f32} {x22 : FVec Ideal S64x64 .f32} {x23 : FVec Ideal S4x16 .f32} {x24 : FVec Ideal S4x16 .f32}
    (e : fn (F := Ideal) x0 x1 x2 x3 x4 x5 x6 x7 x8 x9 x10 x11 x12 x13 x14 x15 x16 x17 x18 x19 x20 x21 x22 x23 x24 = fun _ => 1#1) :
    (∀ i, IsR (x0 i))
      ∧ (∀ i, IsR (x2 i))
      ∧ (∀ i, IsR (x3 i))
      ∧ (∀ i, IsR (x4 i))
      ∧ (∀ i, IsR (x5 i))
      ∧ (∀ i, IsR (x6 i))
      ∧ (∀ i, IsR (x7 i))
      ∧ (∀ i, IsR (x8 i))
      ∧ (∀ i, IsR (x9 i))
      ∧ (∀ i, IsR (x10 i))
      ∧ (∀ i, IsR (x11 i))
      ∧ (∀ i, IsR (x12 i))
      ∧ (∀ i, IsR (x13 i)) := by
  have h := congrFun e (Shape.Idx.first (s := S_) (by decide))
  dsimp only [fn, fn_part1, fn_part2, fn_part3] at h
  obtain ⟨h, g13⟩ := both h
  obtain ⟨h, g12⟩ := both h
  obtain ⟨h, g11⟩ := both h
  obtain ⟨h, g10⟩ := both h
  obtain ⟨h, g9⟩ := both h
  obtain ⟨h, g8⟩ := both h
  obtain ⟨h, g7⟩ := both h
  obtain ⟨h, g6⟩ := both h
  obtain ⟨h, g5⟩ := both h
  obtain ⟨h, g4⟩ := both h
  obtain ⟨h, g3⟩ := both h
  obtain ⟨h, g2⟩ := both h
  exact ⟨leaf h, leaf g2, leaf g3, leaf g4, leaf g5, leaf g6, leaf g7, leaf g8, leaf g9, leaf g10, leaf g11, leaf g12, leaf g13⟩

end Cert.Pre_finite.Back
-- ==== Proof.lean ====
/- The five claims: the three frames, the named constant's step, and the equality of the idealized kernel with the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.Host
public import proofs.«01_k».proof.Proof.RefD
public import proofs.«01_k».proof.Proof.Pre
public import proofs.«01_k».proof.Proof.Gen.Pre_finite
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem Cert.Spec

/-- The reference leaves its arguments as they were and every counter at zero: its run says the first, and it has no counter. -/
theorem frame_ref : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The reference's twenty-five arguments on a device. -/
def arrs (m' : (ℓ : Loc Cert.ReferenceIdeal.nD Cert.ReferenceIdeal.τ Cert.ReferenceIdeal.sig) → Buf (Elt Ideal) ℓ) (c : Dev Cert.ReferenceIdeal.nD) : Cert.ReferenceIdeal.Ref.Arrs :=
  ⟨m' ((c.tc : Thread Cert.ReferenceIdeal.nD Cert.ReferenceIdeal.τ).loc Cert.ReferenceIdeal.main_arg0), m' ((c.tc : Thread Cert.ReferenceIdeal.nD Cert.ReferenceIdeal.τ).loc Cert.ReferenceIdeal.main_arg1), m' ((c.tc : Thread Cert.ReferenceIdeal.nD Cert.ReferenceIdeal.τ).loc Cert.ReferenceIdeal.main_arg2), m' ((c.tc : Thread Cert.ReferenceIdeal.nD Cert.ReferenceIdeal.τ).loc Cert.ReferenceIdeal.main_arg3), m' ((c.tc : Thread Cert.ReferenceIdeal.nD Cert.ReferenceIdeal.τ).loc Cert.ReferenceIdeal.main_arg4), m' ((c.tc : Thread Cert.ReferenceIdeal.nD Cert.ReferenceIdeal.τ).loc Cert.ReferenceIdeal.main_arg5), m' ((c.tc : Thread Cert.ReferenceIdeal.nD Cert.ReferenceIdeal.τ).loc Cert.ReferenceIdeal.main_arg6), m' ((c.tc : Thread Cert.ReferenceIdeal.nD Cert.ReferenceIdeal.τ).loc Cert.ReferenceIdeal.main_arg7), m' ((c.tc : Thread Cert.ReferenceIdeal.nD Cert.ReferenceIdeal.τ).loc Cert.ReferenceIdeal.main_arg8), m' ((c.tc : Thread Cert.ReferenceIdeal.nD Cert.ReferenceIdeal.τ).loc Cert.ReferenceIdeal.main_arg9), m' ((c.tc : Thread Cert.ReferenceIdeal.nD Cert.ReferenceIdeal.τ).loc Cert.ReferenceIdeal.main_arg10), m' ((c.tc : Thread Cert.ReferenceIdeal.nD Cert.ReferenceIdeal.τ).loc Cert.ReferenceIdeal.main_arg11), m' ((c.tc : Thread Cert.ReferenceIdeal.nD Cert.ReferenceIdeal.τ).loc Cert.ReferenceIdeal.main_arg12), m' ((c.tc : Thread Cert.ReferenceIdeal.nD Cert.ReferenceIdeal.τ).loc Cert.ReferenceIdeal.main_arg13), m' ((c.tc : Thread Cert.ReferenceIdeal.nD Cert.ReferenceIdeal.τ).loc Cert.ReferenceIdeal.main_arg14), m' ((c.tc : Thread Cert.ReferenceIdeal.nD Cert.ReferenceIdeal.τ).loc Cert.ReferenceIdeal.main_arg15), m' ((c.tc : Thread Cert.ReferenceIdeal.nD Cert.ReferenceIdeal.τ).loc Cert.ReferenceIdeal.main_arg16), m' ((c.tc : Thread Cert.ReferenceIdeal.nD Cert.ReferenceIdeal.τ).loc Cert.ReferenceIdeal.main_arg17), m' ((c.tc : Thread Cert.ReferenceIdeal.nD Cert.ReferenceIdeal.τ).loc Cert.ReferenceIdeal.main_arg18), m' ((c.tc : Thread Cert.ReferenceIdeal.nD Cert.ReferenceIdeal.τ).loc Cert.ReferenceIdeal.main_arg19), m' ((c.tc : Thread Cert.ReferenceIdeal.nD Cert.ReferenceIdeal.τ).loc Cert.ReferenceIdeal.main_arg20), m' ((c.tc : Thread Cert.ReferenceIdeal.nD Cert.ReferenceIdeal.τ).loc Cert.ReferenceIdeal.main_arg21), m' ((c.tc : Thread Cert.ReferenceIdeal.nD Cert.ReferenceIdeal.τ).loc Cert.ReferenceIdeal.main_arg22), m' ((c.tc : Thread Cert.ReferenceIdeal.nD Cert.ReferenceIdeal.τ).loc Cert.ReferenceIdeal.main_arg23), m' ((c.tc : Thread Cert.ReferenceIdeal.nD Cert.ReferenceIdeal.τ).loc Cert.ReferenceIdeal.main_arg24)⟩

/-- The reference's run, its result by coordinates: at real arguments it is the layer's result. -/
theorem run_ref (m' : (ℓ : Loc Cert.ReferenceIdeal.nD Cert.ReferenceIdeal.τ Cert.ReferenceIdeal.sig) → Buf (Elt Ideal) ℓ) (g' : Dev Cert.ReferenceIdeal.nD → PrngReg) (hX : ∀ c, (arrs m' c).Real) :
    θ_run Cert.ReferenceIdeal.defs (onTc (τ := Cert.ReferenceIdeal.τ) Cert.ReferenceIdeal.main) ⟨m', fun _ => 0, g'⟩ (fun r => ∀ c : Dev Cert.ReferenceIdeal.nD,
      (∀ (b : Fin 2) (n : Fin 512) (t : Fin 16) (d : Fin 64),
        r.2.mem ((c.tc : Thread Cert.ReferenceIdeal.nD Cert.ReferenceIdeal.τ).loc Cert.ReferenceIdeal.main_v183) (ix4 b n t d) = (arrs m' c).args.out b n t d)
      ∧ r.2.mem ((c.tc : Thread Cert.ReferenceIdeal.nD Cert.ReferenceIdeal.τ).loc Cert.ReferenceIdeal.main_arg0) = m'  ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m'  ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m'  ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m'  ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m'  ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m'  ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m'  ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m'  ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m'  ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m'  ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m'  ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m'  ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m'  ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m'  ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m'  ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m'  ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m'  ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m'  ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m'  ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m'  ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m'  ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m'  ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m'  ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m'  ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m'  ((c.tc : Thread Cert.ReferenceIdeal.nD Cert.ReferenceIdeal.τ).loc Cert.ReferenceIdeal.main_arg24)) := by
  refine (θ_run Cert.ReferenceIdeal.defs _ _).mono (fun r h c => ⟨fun b n t d => ?_, (h c).2⟩) (Cert.ReferenceIdeal.Value.run (F := Ideal) m' g')
  exact (congrFun ((h c).1.trans (Cert.ReferenceIdeal.Read.val_main_v183_eq (launchContents m' c))) (ix4 b n t d)).trans
    (Cert.ReferenceIdeal.Ref.out_at (hX c) b n t d)

/-- An array equal to one of reals holds reals. -/
theorem real_of {ι : Type} {x y : ι → EReal} (e : x = y) (h : ∀ i, IsR (y i)) (i : ι) : IsR (x i) := by
  subst e
  exact h i

set_option maxHeartbeats 4000000 in
/-- At real arguments the idealized kernel and the reference compute the same result. -/
theorem algebraic : Cert.algebraic_KernelIdeal_ReferenceIdeal_pre_finite := by
  intro m g m' g' hp hm
  have hr : ∀ c : Dev Cert.KernelIdeal.nD, (∀ i, IsR (m ((c.tc : Thread Cert.KernelIdeal.nD Cert.KernelIdeal.τ).loc Cert.KernelIdeal.main_arg0) i))
      ∧ (∀ i, IsR (m ((c.tc : Thread Cert.KernelIdeal.nD Cert.KernelIdeal.τ).loc Cert.KernelIdeal.main_arg2) i))
      ∧ (∀ i, IsR (m ((c.tc : Thread Cert.KernelIdeal.nD Cert.KernelIdeal.τ).loc Cert.KernelIdeal.main_arg3) i))
      ∧ (∀ i, IsR (m ((c.tc : Thread Cert.KernelIdeal.nD Cert.KernelIdeal.τ).loc Cert.KernelIdeal.main_arg4) i))
      ∧ (∀ i, IsR (m ((c.tc : Thread Cert.KernelIdeal.nD Cert.KernelIdeal.τ).loc Cert.KernelIdeal.main_arg5) i))
      ∧ (∀ i, IsR (m ((c.tc : Thread Cert.KernelIdeal.nD Cert.KernelIdeal.τ).loc Cert.KernelIdeal.main_arg6) i))
      ∧ (∀ i, IsR (m ((c.tc : Thread Cert.KernelIdeal.nD Cert.KernelIdeal.τ).loc Cert.KernelIdeal.main_arg7) i))
      ∧ (∀ i, IsR (m ((c.tc : Thread Cert.KernelIdeal.nD Cert.KernelIdeal.τ).loc Cert.KernelIdeal.main_arg8) i))
      ∧ (∀ i, IsR (m ((c.tc : Thread Cert.KernelIdeal.nD Cert.KernelIdeal.τ).loc Cert.KernelIdeal.main_arg9) i))
      ∧ (∀ i, IsR (m ((c.tc : Thread Cert.KernelIdeal.nD Cert.KernelIdeal.τ).loc Cert.KernelIdeal.main_arg10) i))
      ∧ (∀ i, IsR (m ((c.tc : Thread Cert.KernelIdeal.nD Cert.KernelIdeal.τ).loc Cert.KernelIdeal.main_arg11) i))
      ∧ (∀ i, IsR (m ((c.tc : Thread Cert.KernelIdeal.nD Cert.KernelIdeal.τ).loc Cert.KernelIdeal.main_arg12) i))
      ∧ (∀ i, IsR (m ((c.tc : Thread Cert.KernelIdeal.nD Cert.KernelIdeal.τ).loc Cert.KernelIdeal.main_arg13) i)) :=
    fun c => Cert.Pre_finite.Back.reals (hp c)
  have ha : ∀ c, (arrs m' c).args = Cert.KernelIdeal.Host.args m c := by
    intro c
    obtain ⟨e0, e1, e2, e3, e4, e5, e6, e7, e8, e9, e10, e11, e12, e13, e14, e15, e16, e17, e18, e19, e20, e21, e22, e23, e24⟩ := hm c
    unfold Cert.ReferenceIdeal.Ref.Arrs.args arrs Cert.KernelIdeal.Host.args
    rw [e0, e1, e2, e3, e4, e5, e6, e7, e8, e9, e10, e11, e12, e13, e14, e15, e16, e17, e18, e19, e20, e21, e22, e23, e24]
  have hX : ∀ c, (arrs m' c).Real := by
    intro c
    obtain ⟨e0, e1, e2, e3, e4, e5, e6, e7, e8, e9, e10, e11, e12, e13, e14, e15, e16, e17, e18, e19, e20, e21, e22, e23, e24⟩ := hm c
    obtain ⟨h0, h2, h3, h4, h5, h6, h7, h8, h9, h10, h11, h12, h13⟩ := hr c
    exact ⟨real_of e0 h0, real_of e2 h2, real_of e3 h3, real_of e4 h4, real_of e5 h5, real_of e6 h6, real_of e7 h7, real_of e8 h8, real_of e9 h9, real_of e10 h10, real_of e11 h11, real_of e12 h12, real_of e13 h13⟩
  refine ⟨fun c => Cert.KernelIdeal.Gen.W4 m g c (Proc.devRef .tc Cert.KernelIdeal.main_v0), ?_, ?_⟩
  · refine (θ_run Cert.KernelIdeal.defs _ _).mono (fun r h c => ?_) (Cert.KernelIdeal.Whole.run_all (F := Ideal) m g)
    exact ⟨h c _ (Cert.KernelIdeal.Gen.mem_uc Cert.KernelIdeal.main_v0 (by decide)),
      (h c _ (Cert.KernelIdeal.Gen.mem_uc Cert.KernelIdeal.main_arg0 (by decide))).trans (Cert.KernelIdeal.Gen.W4_main_arg0 m g c),
      (h c _ (Cert.KernelIdeal.Gen.mem_uc Cert.KernelIdeal.main_arg1 (by decide))).trans (Cert.KernelIdeal.Gen.W4_main_arg1 m g c),
      (h c _ (Cert.KernelIdeal.Gen.mem_uc Cert.KernelIdeal.main_arg2 (by decide))).trans (Cert.KernelIdeal.Gen.W4_main_arg2 m g c),
      (h c _ (Cert.KernelIdeal.Gen.mem_uc Cert.KernelIdeal.main_arg3 (by decide))).trans (Cert.KernelIdeal.Gen.W4_main_arg3 m g c),
      (h c _ (Cert.KernelIdeal.Gen.mem_uc Cert.KernelIdeal.main_arg4 (by decide))).trans (Cert.KernelIdeal.Gen.W4_main_arg4 m g c),
      (h c _ (Cert.KernelIdeal.Gen.mem_uc Cert.KernelIdeal.main_arg5 (by decide))).trans (Cert.KernelIdeal.Gen.W4_main_arg5 m g c),
      (h c _ (Cert.KernelIdeal.Gen.mem_uc Cert.KernelIdeal.main_arg6 (by decide))).trans (Cert.KernelIdeal.Gen.W4_main_arg6 m g c),
      (h c _ (Cert.KernelIdeal.Gen.mem_uc Cert.KernelIdeal.main_arg7 (by decide))).trans (Cert.KernelIdeal.Gen.W4_main_arg7 m g c),
      (h c _ (Cert.KernelIdeal.Gen.mem_uc Cert.KernelIdeal.main_arg8 (by decide))).trans (Cert.KernelIdeal.Gen.W4_main_arg8 m g c),
      (h c _ (Cert.KernelIdeal.Gen.mem_uc Cert.KernelIdeal.main_arg9 (by decide))).trans (Cert.KernelIdeal.Gen.W4_main_arg9 m g c),
      (h c _ (Cert.KernelIdeal.Gen.mem_uc Cert.KernelIdeal.main_arg10 (by decide))).trans (Cert.KernelIdeal.Gen.W4_main_arg10 m g c),
      (h c _ (Cert.KernelIdeal.Gen.mem_uc Cert.KernelIdeal.main_arg11 (by decide))).trans (Cert.KernelIdeal.Gen.W4_main_arg11 m g c),
      (h c _ (Cert.KernelIdeal.Gen.mem_uc Cert.KernelIdeal.main_arg12 (by decide))).trans (Cert.KernelIdeal.Gen.W4_main_arg12 m g c),
      (h c _ (Cert.KernelIdeal.Gen.mem_uc Cert.KernelIdeal.main_arg13 (by decide))).trans (Cert.KernelIdeal.Gen.W4_main_arg13 m g c),
      (h c _ (Cert.KernelIdeal.Gen.mem_uc Cert.KernelIdeal.main_arg14 (by decide))).trans (Cert.KernelIdeal.Gen.W4_main_arg14 m g c),
      (h c _ (Cert.KernelIdeal.Gen.mem_uc Cert.KernelIdeal.main_arg15 (by decide))).trans (Cert.KernelIdeal.Gen.W4_main_arg15 m g c),
      (h c _ (Cert.KernelIdeal.Gen.mem_uc Cert.KernelIdeal.main_arg16 (by decide))).trans (Cert.KernelIdeal.Gen.W4_main_arg16 m g c),
      (h c _ (Cert.KernelIdeal.Gen.mem_uc Cert.KernelIdeal.main_arg17 (by decide))).trans (Cert.KernelIdeal.Gen.W4_main_arg17 m g c),
      (h c _ (Cert.KernelIdeal.Gen.mem_uc Cert.KernelIdeal.main_arg18 (by decide))).trans (Cert.KernelIdeal.Gen.W4_main_arg18 m g c),
      (h c _ (Cert.KernelIdeal.Gen.mem_uc Cert.KernelIdeal.main_arg19 (by decide))).trans (Cert.KernelIdeal.Gen.W4_main_arg19 m g c),
      (h c _ (Cert.KernelIdeal.Gen.mem_uc Cert.KernelIdeal.main_arg20 (by decide))).trans (Cert.KernelIdeal.Gen.W4_main_arg20 m g c),
      (h c _ (Cert.KernelIdeal.Gen.mem_uc Cert.KernelIdeal.main_arg21 (by decide))).trans (Cert.KernelIdeal.Gen.W4_main_arg21 m g c),
      (h c _ (Cert.KernelIdeal.Gen.mem_uc Cert.KernelIdeal.main_arg22 (by decide))).trans (Cert.KernelIdeal.Gen.W4_main_arg22 m g c),
      (h c _ (Cert.KernelIdeal.Gen.mem_uc Cert.KernelIdeal.main_arg23 (by decide))).trans (Cert.KernelIdeal.Gen.W4_main_arg23 m g c),
      (h c _ (Cert.KernelIdeal.Gen.mem_uc Cert.KernelIdeal.main_arg24 (by decide))).trans (Cert.KernelIdeal.Gen.W4_main_arg24 m g c)⟩
  · refine (θ_run Cert.ReferenceIdeal.defs _ _).mono (fun r h c => ⟨?_, (h c).2⟩) (run_ref m' g' hX)
    obtain ⟨h0, h2, h3, h4, h5, h6, h7, h8, h9, h10, h11, h12, h13⟩ := hr c
    funext i
    idx_vars i
    refine ((h c).1 _ _ _ _).trans ?_
    rw [ha c]
    exact (Cert.KernelIdeal.Host.result_at m g c h0 h2 h3 h5 h6 _ _ _ _).symm

/-- The certificate's claim. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  IdealRules.named_const.statement Cert.KernelIdeal.κ "mask" .f32 0xCE6E6B28#32 ⊥ rfl, algebraic⟩

end Cert.Proof

end
